-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v33)) (v2 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25_4) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S50000x1 : Shape := ⟨2, ![50000, 1]⟩
abbrev S1x8 : Shape := ⟨2, ![1, 8]⟩
abbrev S256x8 : Shape := ⟨2, ![256, 8]⟩
abbrev S1792 : Shape := ⟨1, ![1792]⟩
abbrev S7x256 : Shape := ⟨2, ![7, 256]⟩
abbrev S7x128 : Shape := ⟨2, ![7, 128]⟩
abbrev S8x1 : Shape := ⟨2, ![8, 1]⟩
abbrev S256x1 : Shape := ⟨2, ![256, 1]⟩
abbrev S1x256 : Shape := ⟨2, ![1, 256]⟩
abbrev S256 : Shape := ⟨1, ![256]⟩
abbrev S_ : Shape := ⟨0, ![]⟩
abbrev S1792x1 : Shape := ⟨2, ![1792, 1]⟩
abbrev S1x7x1x256 : Shape := ⟨4, ![1, 7, 1, 256]⟩
abbrev S256x7x1x256 : Shape := ⟨4, ![256, 7, 1, 256]⟩
abbrev S1792x256 : Shape := ⟨2, ![1792, 256]⟩
abbrev S176x1 : Shape := ⟨2, ![176, 1]⟩
abbrev S50176x1 : Shape := ⟨2, ![50176, 1]⟩
abbrev S50176x256 : Shape := ⟨2, ![50176, 256]⟩
abbrev S50176 : Shape := ⟨1, ![50176]⟩
abbrev S1x7x1x128 : Shape := ⟨4, ![1, 7, 1, 128]⟩
abbrev S256x7x1x128 : Shape := ⟨4, ![256, 7, 1, 128]⟩
abbrev S1792x128 : Shape := ⟨2, ![1792, 128]⟩
abbrev S1x128 : Shape := ⟨2, ![1, 128]⟩

abbrev nBuf : Space → Nat
  | .hbm => 48
  | .vmem => 16
  | .smem => 0
  | _ => 0

abbrev bufTy : (tb : Table) → Fin (tcTables nBuf tb) → BufTy
  | .hbm, ⟨0, _⟩ => ⟨S50000x1, .f32⟩
  | .hbm, ⟨1, _⟩ => ⟨S1x8, .f32⟩
  | .hbm, ⟨2, _⟩ => ⟨S256x8, .f32⟩
  | .hbm, ⟨3, _⟩ => ⟨S1792, .i32⟩
  | .hbm, ⟨4, _⟩ => ⟨S1792, .i1⟩
  | .hbm, ⟨5, _⟩ => ⟨S7x256, .i32⟩
  | .hbm, ⟨6, _⟩ => ⟨S7x128, .i32⟩
  | .hbm, ⟨7, _⟩ => ⟨S8x1, .f32⟩
  | .hbm, ⟨8, _⟩ => ⟨S256x1, .f32⟩
  | .hbm, ⟨9, _⟩ => ⟨S1x256, .f32⟩
  | .hbm, ⟨10, _⟩ => ⟨S256, .f32⟩
  | .hbm, ⟨11, _⟩ => ⟨S_, .i32⟩
  | .hbm, ⟨12, _⟩ => ⟨S1792, .i32⟩
  | .hbm, ⟨13, _⟩ => ⟨S1792, .i32⟩
  | .hbm, ⟨14, _⟩ => ⟨S1792, .i32⟩
  | .hbm, ⟨15, _⟩ => ⟨S1792x1, .i32⟩
  | .hbm, ⟨16, _⟩ => ⟨S1792, .f32⟩
  | .hbm, ⟨17, _⟩ => ⟨S7x256, .f32⟩
  | .hbm, ⟨18, _⟩ => ⟨S1x7x1x256, .f32⟩
  | .hbm, ⟨19, _⟩ => ⟨S256x7x1x256, .f32⟩
  | .hbm, ⟨20, _⟩ => ⟨S1792x256, .f32⟩
  | .hbm, ⟨21, _⟩ => ⟨S_, .f32⟩
  | .hbm, ⟨22, _⟩ => ⟨S176x1, .f32⟩
  | .hbm, ⟨23, _⟩ => ⟨S50176x1, .f32⟩
  | .hbm, ⟨24, _⟩ => ⟨S50176x256, .f32⟩
  | .hbm, ⟨25, _⟩ => ⟨S50176x256, .f32⟩
  | .hbm, ⟨26, _⟩ => ⟨S50176x256, .f32⟩
  | .hbm, ⟨27, _⟩ => ⟨S50176x256, .f32⟩
  | .hbm, ⟨28, _⟩ => ⟨S50176x256, .f32⟩
  | .hbm, ⟨29, _⟩ => ⟨S_, .f32⟩
  | .hbm, ⟨30, _⟩ => ⟨S50176x256, .f32⟩
  | .hbm, ⟨31, _⟩ => ⟨S50176x256, .f32⟩
  | .hbm, ⟨32, _⟩ => ⟨S50176x256, .f32⟩
  | .hbm, ⟨33, _⟩ => ⟨S_, .f32⟩
  | .hbm, ⟨34, _⟩ => ⟨S50176, .f32⟩
  | .hbm, ⟨35, _⟩ => ⟨S50176x1, .f32⟩
  | .hbm, ⟨36, _⟩ => ⟨S1x7x1x256, .i32⟩
  | .hbm, ⟨37, _⟩ => ⟨S256x7x1x256, .i32⟩
  | .hbm, ⟨38, _⟩ => ⟨S1792x256, .i32⟩
  | .hbm, ⟨39, _⟩ => ⟨S1x7x1x128, .i32⟩
  | .hbm, ⟨40, _⟩ => ⟨S256x7x1x128, .i32⟩
  | .hbm, ⟨41, _⟩ => ⟨S1792x128, .i32⟩
  | .hbm, ⟨42, _⟩ => ⟨S50176x1, .f32⟩
  | .hbm, ⟨43, _⟩ => ⟨S50176x1, .i32⟩
  | .hbm, ⟨44, _⟩ => ⟨S50176x1, .f32⟩
  | .hbm, ⟨45, _⟩ => ⟨S50000x1, .f32⟩
  | .hbm, ⟨46, _⟩ => ⟨S50000x1, .i32⟩
  | .hbm, ⟨47, _⟩ => ⟨S50000x1, .f32⟩
  | .local _ .vmem, ⟨0, _⟩ => ⟨S1792x1, .f32⟩
  | .local _ .vmem, ⟨1, _⟩ => ⟨S1792x1, .f32⟩
  | .local _ .vmem, ⟨2, _⟩ => ⟨S1792x256, .f32⟩
  | .local _ .vmem, ⟨3, _⟩ => ⟨S1792x1, .f32⟩
  | .local _ .vmem, ⟨4, _⟩ => ⟨S1792x1, .f32⟩
  | .local _ .vmem, ⟨5, _⟩ => ⟨S1792x256, .i32⟩
  | .local _ .vmem, ⟨6, _⟩ => ⟨S1792x128, .i32⟩
  | .local _ .vmem, ⟨7, _⟩ => ⟨S1792x1, .f32⟩
  | .local _ .vmem, ⟨8, _⟩ => ⟨S1792x1, .f32⟩
  | .local _ .vmem, ⟨9, _⟩ => ⟨S1792x1, .i32⟩
  | .local _ .vmem, ⟨10, _⟩ => ⟨S1792x1, .i32⟩
  | .local _ .vmem, ⟨11, _⟩ => ⟨S1792x1, .f32⟩
  | .local _ .vmem, ⟨12, _⟩ => ⟨S1792x1, .f32⟩
  | .local _ .vmem, ⟨13, _⟩ => ⟨S1x128, .f32⟩
  | .local _ .vmem, ⟨14, _⟩ => ⟨S1792x128, .f32⟩
  | .local _ .vmem, ⟨15, _⟩ => ⟨S1792x256, .f32⟩
  | _, _ => ⟨S50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31_0 : Ref sig .tc := ⟨.hbm, 42, rfl⟩
abbrev main_v31_1 : Ref sig .tc := ⟨.hbm, 43, rfl⟩
abbrev main_v31_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![28], ![false]⟩

@[reducible] def k0_t1_loop : Scf.Loop 32 :=
  let c0_i32_33 : BitVec 32 := 0#32
  let c256_i32_34 : BitVec 32 := 256#32
  let v82 : BitVec 32 := Scalar.addi c0_i32_33 c256_i32_34
  let c1_i32_35 : BitVec 32 := 1#32
  ⟨c0_i32_33, v82, c1_i32_35⟩
def k0_off1 (k0_t1 : Fin k0_t1_loop.trips) (c0_i32_53 : BitVec 32) : Fin 2 → Nat :=
  let c0_i32_33 : BitVec 32 := 0#32
  let c1_i32_35 : BitVec 32 := 1#32
  let arg12 : BitVec 32 := Scf.iv c0_i32_33 c1_i32_35 k0_t1
  let c7_i32 : BitVec 32 := 7#32
  let v115 : BitVec 32 := Scalar.muli arg12 c7_i32
  let v116 : BitVec 32 := Scalar.addi v115 c0_i32_53
  let v117 : Index := Scalar.indexCast v116
  let c0_54 : Index := 0#32
  ![v117.toNat, 0]
def k0_off2 (k0_t1 : Fin k0_t1_loop.trips) (c0_i32_53 : BitVec 32) : Fin 2 → Nat :=
  let c0_i32_33 : BitVec 32 := 0#32
  let c1_i32_35 : BitVec 32 := 1#32
  let arg12 : BitVec 32 := Scf.iv c0_i32_33 c1_i32_35 k0_t1
  let c7_i32 : BitVec 32 := 7#32
  let v115 : BitVec 32 := Scalar.muli arg12 c7_i32
  let v116 : BitVec 32 := Scalar.addi v115 c0_i32_53
  let v121 : Index := Scalar.indexCast v116
  let c0_55 : Index := 0#32
  ![v121.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1792x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1792x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1792x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1792x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1792x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1792x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1792x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S50000x1 : Shape := ⟨2, ![50000, 1]⟩
abbrev S1x8 : Shape := ⟨2, ![1, 8]⟩
abbrev S256x2 : Shape := ⟨2, ![256, 2]⟩
abbrev S256x8 : Shape := ⟨2, ![256, 8]⟩
abbrev S8x1 : Shape := ⟨2, ![8, 1]⟩
abbrev S256x1 : Shape := ⟨2, ![256, 1]⟩
abbrev S1x256 : Shape := ⟨2, ![1, 256]⟩
abbrev S1x1x1x256 : Shape := ⟨4, ![1, 1, 1, 256]⟩
abbrev S50000x1x1x256 : Shape := ⟨4, ![50000, 1, 1, 256]⟩
abbrev S50000x256 : Shape := ⟨2, ![50000, 256]⟩
abbrev S_ : Shape := ⟨0, ![]⟩
abbrev S50000 : Shape := ⟨1, ![50000]⟩
abbrev S256 : Shape := ⟨1, ![256]⟩
abbrev S1 : Shape := ⟨1, ![1]⟩
abbrev S512 : Shape := ⟨1, ![512]⟩
abbrev S512x1 : Shape := ⟨2, ![512, 1]⟩
abbrev S1x512 : Shape := ⟨2, ![1, 512]⟩
abbrev S1x256x2 : Shape := ⟨3, ![1, 256, 2]⟩
abbrev S1x1 : Shape := ⟨2, ![1, 1]⟩

abbrev nBuf : Space → Nat
  | .hbm => 119
  | .vmem => 0
  | .smem => 0
  | _ => 0

abbrev bufTy : (tb : Table) → Fin (tcTables nBuf tb) → BufTy
  | .hbm, ⟨0, _⟩ => ⟨S50000x1, .f32⟩
  | .hbm, ⟨1, _⟩ => ⟨S1x8, .f32⟩
  | .hbm, ⟨2, _⟩ => ⟨S256x2, .i32⟩
  | .hbm, ⟨3, _⟩ => ⟨S256x8, .f32⟩
  | .hbm, ⟨4, _⟩ => ⟨S8x1, .f32⟩
  | .hbm, ⟨5, _⟩ => ⟨S256x1, .f32⟩
  | .hbm, ⟨6, _⟩ => ⟨S1x256, .f32⟩
  | .hbm, ⟨7, _⟩ => ⟨S1x1x1x256, .f32⟩
  | .hbm, ⟨8, _⟩ => ⟨S50000x1x1x256, .f32⟩
  | .hbm, ⟨9, _⟩ => ⟨S50000x256, .f32⟩
  | .hbm, ⟨10, _⟩ => ⟨S50000x256, .f32⟩
  | .hbm, ⟨11, _⟩ => ⟨S50000x256, .f32⟩
  | .hbm, ⟨12, _⟩ => ⟨S50000x256, .f32⟩
  | .hbm, ⟨13, _⟩ => ⟨S50000x256, .f32⟩
  | .hbm, ⟨14, _⟩ => ⟨S_, .f32⟩
  | .hbm, ⟨15, _⟩ => ⟨S50000x256, .f32⟩
  | .hbm, ⟨16, _⟩ => ⟨S50000x256, .f32⟩
  | .hbm, ⟨17, _⟩ => ⟨S50000x256, .f32⟩
  | .hbm, ⟨18, _⟩ => ⟨S_, .f32⟩
  | .hbm, ⟨19, _⟩ => ⟨S50000, .f32⟩
  | .hbm, ⟨20, _⟩ => ⟨S50000x1, .f32⟩
  | .hbm, ⟨21, _⟩ => ⟨S50000x256, .f32⟩
  | .hbm, ⟨22, _⟩ => ⟨S50000x256, .f32⟩
  | .hbm, ⟨23, _⟩ => ⟨S50000x256, .f32⟩
  | .hbm, ⟨24, _⟩ => ⟨S50000x256, .i32⟩
  | .hbm, ⟨25, _⟩ => ⟨S_, .f32⟩
  | .hbm, ⟨26, _⟩ => ⟨S_, .i32⟩
  | .hbm, ⟨27, _⟩ => ⟨S50000, .f32⟩
  | .hbm, ⟨28, _⟩ => ⟨S50000, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S50000, .i32⟩
  | .hbm, ⟨36, _⟩ => ⟨S50000, .i32⟩
  | .hbm, ⟨37, _⟩ => ⟨S_, .i32⟩
  | .hbm, ⟨38, _⟩ => ⟨S50000, .i32⟩
  | .hbm, ⟨39, _⟩ => ⟨S50000, .i1⟩
  | .hbm, ⟨40, _⟩ => ⟨S_, .i32⟩
  | .hbm, ⟨41, _⟩ => ⟨S50000, .i32⟩
  | .hbm, ⟨42, _⟩ => ⟨S50000, .i1⟩
  | .hbm, ⟨43, _⟩ => ⟨S_, .i32⟩
  | .hbm, ⟨44, _⟩ => ⟨S_, .i1⟩
  | .hbm, ⟨45, _⟩ => ⟨S50000, .i1⟩
  | .hbm, ⟨46, _⟩ => ⟨S50000, .i1⟩
  | .hbm, ⟨47, _⟩ => ⟨S50000, .i1⟩
  | .hbm, ⟨48, _⟩ => ⟨S50000, .i32⟩
  | .hbm, ⟨49, _⟩ => ⟨S50000, .i32⟩
  | .hbm, ⟨50, _⟩ => ⟨S50000, .i32⟩
  | .hbm, ⟨51, _⟩ => ⟨S50000x1, .i32⟩
  | .hbm, ⟨52, _⟩ => ⟨S_, .f32⟩
  | .hbm, ⟨53, _⟩ => ⟨S50000, .f32⟩
  | .hbm, ⟨54, _⟩ => ⟨S50000x1, .f32⟩
  | .hbm, ⟨55, _⟩ => ⟨S_, .f32⟩
  | .hbm, ⟨56, _⟩ => ⟨S1x256, .f32⟩
  | .hbm, ⟨57, _⟩ => ⟨S_, .f32⟩
  | .hbm, ⟨58, _⟩ => ⟨S50000x1, .f32⟩
  | .hbm, ⟨59, _⟩ => ⟨S_, .i32⟩
  | .hbm, ⟨60, _⟩ => ⟨S50000x256, .f32⟩
  | .hbm, ⟨61, _⟩ => ⟨S256x2, .i32⟩
  | .hbm, ⟨62, _⟩ => ⟨S_, .i32⟩
  | .hbm, ⟨63, _⟩ => ⟨S1x256, .f32⟩
  | .hbm, ⟨64, _⟩ => ⟨S50000x1, .f32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S1x256, .f32⟩
  | .hbm, ⟨69, _⟩ => ⟨S256, .f32⟩
  | .hbm, ⟨70, _⟩ => ⟨S1x256, .i32⟩
  | .hbm, ⟨71, _⟩ => ⟨S_, .f32⟩
  | .hbm, ⟨72, _⟩ => ⟨S_, .i32⟩
  | .hbm, ⟨73, _⟩ => ⟨S1, .f32⟩
  | .hbm, ⟨74, _⟩ => ⟨S1, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i1⟩
  | .hbm, ⟨79, _⟩ => ⟨S_, .i32⟩
  | .hbm, ⟨80, _⟩ => ⟨S_, .i32⟩
  | .hbm, ⟨81, _⟩ => ⟨S1, .i32⟩
  | .hbm, ⟨82, _⟩ => ⟨S1, .i32⟩
  | .hbm, ⟨83, _⟩ => ⟨S_, .i32⟩
  | .hbm, ⟨84, _⟩ => ⟨S1, .i32⟩
  | .hbm, ⟨85, _⟩ => ⟨S1, .i1⟩
  | .hbm, ⟨86, _⟩ => ⟨S_, .i32⟩
  | .hbm, ⟨87, _⟩ => ⟨S1, .i32⟩
  | .hbm, ⟨88, _⟩ => ⟨S1, .i1⟩
  | .hbm, ⟨89, _⟩ => ⟨S_, .i32⟩
  | .hbm, ⟨90, _⟩ => ⟨S_, .i1⟩
  | .hbm, ⟨91, _⟩ => ⟨S1, .i1⟩
  | .hbm, ⟨92, _⟩ => ⟨S1, .i1⟩
  | .hbm, ⟨93, _⟩ => ⟨S1, .i1⟩
  | .hbm, ⟨94, _⟩ => ⟨S1, .i32⟩
  | .hbm, ⟨95, _⟩ => ⟨S1, .i32⟩
  | .hbm, ⟨96, _⟩ => ⟨S1, .i32⟩
  | .hbm, ⟨97, _⟩ => ⟨S1, .f32⟩
  | .hbm, ⟨98, _⟩ => ⟨S256, .f32⟩
  | .hbm, ⟨99, _⟩ => ⟨S1x256, .f32⟩
  | .hbm, ⟨100, _⟩ => ⟨S1x256, .f32⟩
  | .hbm, ⟨101, _⟩ => ⟨S512, .i32⟩
  | .hbm, ⟨102, _⟩ => ⟨S_, .i32⟩
  | .hbm, ⟨103, _⟩ => ⟨S512, .i32⟩
  | .hbm, ⟨104, _⟩ => ⟨S512, .i1⟩
  | .hbm, ⟨105, _⟩ => ⟨S_, .i32⟩
  | .hbm, ⟨106, _⟩ => ⟨S512, .i32⟩
  | .hbm, ⟨107, _⟩ => ⟨S512, .i32⟩
  | .hbm, ⟨108, _⟩ => ⟨S512, .i32⟩
  | .hbm, ⟨109, _⟩ => ⟨S512x1, .i32⟩
  | .hbm, ⟨110, _⟩ => ⟨S1x512, .f32⟩
  | .hbm, ⟨111, _⟩ => ⟨S1x256x2, .f32⟩
  | .hbm, ⟨112, _⟩ => ⟨S_, .f32⟩
  | .hbm, ⟨113, _⟩ => ⟨S1x256, .f32⟩
  | .hbm, ⟨114, _⟩ => ⟨S1x1, .f32⟩
  | .hbm, ⟨115, _⟩ => ⟨S_, .i32⟩
  | .hbm, ⟨116, _⟩ => ⟨S50000x1, .f32⟩
  | .hbm, ⟨117, _⟩ => ⟨S_, .i32⟩
  | .hbm, ⟨118, _⟩ => ⟨S_, .i32⟩
  | _, _ => ⟨S50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_cst : Ref sig .tc := ⟨.hbm, 25, rfl⟩
abbrev main_call0_c : Ref sig .tc := ⟨.hbm, 26, rfl⟩
abbrev main_call0_v1_0 : Ref sig .tc := ⟨.hbm, 27, rfl⟩
abbrev main_v18 : Ref sig .tc := ⟨.hbm, 28, rfl⟩
abbrev main_c_2 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v19 : Ref sig .tc := ⟨.hbm, 50, rfl⟩
abbrev main_v20 : Ref sig .tc := ⟨.hbm, 51, rfl⟩
abbrev main_cst_3 : Ref sig .tc := ⟨.hbm, 52, rfl⟩
abbrev main_v21 : Ref sig .tc := ⟨.hbm, 53, rfl⟩
abbrev main_v22 : Ref sig .tc := ⟨.hbm, 54, rfl⟩
abbrev main_cst_4 : Ref sig .tc := ⟨.hbm, 55, rfl⟩
abbrev main_v23 : Ref sig .tc := ⟨.hbm, 56, rfl⟩
abbrev main_cst_5 : Ref sig .tc := ⟨.hbm, 57, rfl⟩
abbrev main_v24 : Ref sig .tc := ⟨.hbm, 58, rfl⟩
abbrev main_c_6 : Ref sig .tc := ⟨.hbm, 59, rfl⟩
abbrev main_v25_0 : Ref sig .tc := ⟨.hbm, 60, rfl⟩
abbrev main_v25_1 : Ref sig .tc := ⟨.hbm, 61, rfl⟩
abbrev main_v25_2 : Ref sig .tc := ⟨.hbm, 62, rfl⟩
abbrev main_v25_3 : Ref sig .tc := ⟨.hbm, 63, rfl⟩
abbrev main_v25_4 : Ref sig .tc := ⟨.hbm, 64, rfl⟩
abbrev main_while0c_c_11 : Ref sig .tc := ⟨.hbm, 65, rfl⟩
abbrev main_while0c_v26 : Ref sig .tc := ⟨.hbm, 66, rfl⟩
abbrev main_while0b_call2_c : Ref sig .tc := ⟨.hbm, 67, rfl⟩
abbrev main_while0b_call2_v0 : Ref sig .tc := ⟨.hbm, 68, rfl⟩
abbrev main_while0b_v26 : Ref sig .tc := ⟨.hbm, 69, rfl⟩
abbrev main_while0b_call3_v0 : Ref sig .tc := ⟨.hbm, 70, rfl⟩
abbrev main_while0b_call3_cst : Ref sig .tc := ⟨.hbm, 71, rfl⟩
abbrev main_while0b_call3_c : Ref sig .tc := ⟨.hbm, 72, rfl⟩
abbrev main_while0b_call3_v1_0 : Ref sig .tc := ⟨.hbm, 73, rfl⟩
abbrev main_while0b_v27 : Ref sig .tc := ⟨.hbm, 74, rfl⟩
abbrev main_while0b_c_11 : Ref sig .tc := ⟨.hbm, 75, rfl⟩
abbrev main_while0b_call4_v0 : Ref sig .tc := ⟨.hbm, 76, rfl⟩
abbrev main_while0b_call4_c : Ref sig .tc := ⟨.hbm, 77, rfl⟩
abbrev main_while0b_call4_v1 : Ref sig .tc := ⟨.hbm, 78, rfl⟩
abbrev main_while0b_call4_c_0 : Ref sig .tc := ⟨.hbm, 79, rfl⟩
abbrev main_while0b_call4_v2 : Ref sig .tc := ⟨.hbm, 80, rfl⟩
abbrev main_while0b_call4_v3 : Ref sig .tc := ⟨.hbm, 81, rfl⟩
abbrev main_while0b_call4_v4 : Ref sig .tc := ⟨.hbm, 82, rfl⟩
abbrev main_while0b_call4_c_1 : Ref sig .tc := ⟨.hbm, 83, rfl⟩
abbrev main_while0b_call4_v5 : Ref sig .tc := ⟨.hbm, 84, rfl⟩
abbrev main_while0b_call4_v6 : Ref sig .tc := ⟨.hbm, 85, rfl⟩
abbrev main_while0b_call4_c_2 : Ref sig .tc := ⟨.hbm, 86, rfl⟩
abbrev main_while0b_call4_v7 : Ref sig .tc := ⟨.hbm, 87, rfl⟩
abbrev main_while0b_call4_v8 : Ref sig .tc := ⟨.hbm, 88, rfl⟩
abbrev main_while0b_call4_c_3 : Ref sig .tc := ⟨.hbm, 89, rfl⟩
abbrev main_while0b_call4_v9 : Ref sig .tc := ⟨.hbm, 90, rfl⟩
abbrev main_while0b_call4_v10 : Ref sig .tc := ⟨.hbm, 91, rfl⟩
abbrev main_while0b_call4_v11 : Ref sig .tc := ⟨.hbm, 92, rfl⟩
abbrev main_while0b_call4_v12 : Ref sig .tc := ⟨.hbm, 93, rfl⟩
abbrev main_while0b_call4_v13 : Ref sig .tc := ⟨.hbm, 94, rfl⟩
abbrev main_while0b_call4_v14 : Ref sig .tc := ⟨.hbm, 95, rfl⟩
abbrev main_while0b_v28 : Ref sig .tc := ⟨.hbm, 96, rfl⟩
abbrev main_while0b_v29 : Ref sig .tc := ⟨.hbm, 97, rfl⟩
abbrev main_while0b_v30 : Ref sig .tc := ⟨.hbm, 98, rfl⟩
abbrev main_while0b_v31 : Ref sig .tc := ⟨.hbm, 99, rfl⟩
abbrev main_while0b_v32 : Ref sig .tc := ⟨.hbm, 100, rfl⟩
abbrev main_while0b_v33 : Ref sig .tc := ⟨.hbm, 101, rfl⟩
abbrev main_while0b_c_12 : Ref sig .tc := ⟨.hbm, 102, rfl⟩
abbrev main_while0b_v34 : Ref sig .tc := ⟨.hbm, 103, rfl⟩
abbrev main_while0b_v35 : Ref sig .tc := ⟨.hbm, 104, rfl⟩
abbrev main_while0b_c_13 : Ref sig .tc := ⟨.hbm, 105, rfl⟩
abbrev main_while0b_v36 : Ref sig .tc := ⟨.hbm, 106, rfl⟩
abbrev main_while0b_v37 : Ref sig .tc := ⟨.hbm, 107, rfl⟩
abbrev main_while0b_v38 : Ref sig .tc := ⟨.hbm, 108, rfl⟩
abbrev main_while0b_v39 : Ref sig .tc := ⟨.hbm, 109, rfl⟩
abbrev main_while0b_v40 : Ref sig .tc := ⟨.hbm, 110, rfl⟩
abbrev main_while0b_v41 : Ref sig .tc := ⟨.hbm, 111, rfl⟩
abbrev main_while0b_cst_14 : Ref sig .tc := ⟨.hbm, 112, rfl⟩
abbrev main_while0b_v42 : Ref sig .tc := ⟨.hbm, 113, rfl⟩
abbrev main_while0b_call5_v0 : Ref sig .tc := ⟨.hbm, 114, rfl⟩
abbrev main_while0b_call5_c : Ref sig .tc := ⟨.hbm, 115, rfl⟩
abbrev main_while0b_v43 : Ref sig .tc := ⟨.hbm, 116, rfl⟩
abbrev main_while0b_c_15 : Ref sig .tc := ⟨.hbm, 117, rfl⟩
abbrev main_while0b_v44 : Ref sig .tc := ⟨.hbm, 118, rfl⟩

abbrev nD : Nat := 1
abbrev τ : Topo := Topo.v7x

variable {F : FTy → Type} [FloatOps F]

abbrev main_while0_count : Scf.Loop 32 := ⟨0#32, 50000#32, 1#32⟩
-- ==== Proof.KernelFrame.lean ====
/- The frame of the kernel as it is compiled: from any memory it runs to the end, leaves its two arguments as they
   were and every semaphore counter at zero. Nothing is said here of what it computes, so every buffer the body
   writes is held at contents nothing names. -/
module

public import proofs.«01_k».proof.Proof.Gen.Kernel.Skeleton
public import proofs.«01_k».proof.Proof.Gen.Kernel.Loops
public import proofs.«01_k».proof.Proof.Gen.Kernel.Frame
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition the body resets the carried metrics under: the grid coordinate is zero. -/
abbrev atStart (i : grid0.Coords) : Prop :=
  (Scalar.cmpi .ne (Scalar.extui (Scalar.cmpi .eq (BitVec.ofNat 32 (i 0).val) 0#32)) 0#32) = 1#1

set_option maxHeartbeats 4000000 in
/-- The body at any grid point, its five inputs at given contents and every other buffer at some contents: it runs,
    leaves the inputs as they were and the others at some contents. -/
theorem body_runs (c : Dev nD) (i : grid0.Coords) (arg1 : Memref sig .tc .vmem S1792x1 .f32) (harg1 : arg1.IsWhole) (arg2 : Memref sig .tc .vmem S1792x256 .f32) (harg2 : arg2.IsWhole) (arg3 : Memref sig .tc .vmem S1792x1 .f32) (harg3 : arg3.IsWhole) (arg4 : Memref sig .tc .vmem S1792x256 .i32) (harg4 : arg4.IsWhole) (arg5 : Memref sig .tc .vmem S1792x128 .i32) (harg5 : arg5.IsWhole) (arg6 : Memref sig .tc .vmem S1792x1 .f32) (harg6 : arg6.IsWhole) (arg7 : Memref sig .tc .vmem S1792x1 .i32) (harg7 : arg7.IsWhole) (arg8 : Memref sig .tc .vmem S1792x1 .f32) (harg8 : arg8.IsWhole) (arg9 : Memref sig .tc .vmem S1x128 .f32) (harg9 : arg9.IsWhole) (arg10 : Memref sig .tc .vmem S1792x128 .f32) (harg10 : arg10.IsWhole) (arg11 : Memref sig .tc .vmem S1792x256 .f32) (harg11 : arg11.IsWhole)
    (x0 : Vec F S1792x1 .f32) (x1 : Vec F S1792x256 .f32) (x2 : Vec F S1792x1 .f32) (x3 : Vec F S1792x256 .i32) (x4 : Vec F S1792x128 .i32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel
  simp only [k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4
  by_cases hc0 : atStart i
  all_goals
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The buffers the host operations after the launch write: the three results. -/
def tailWrites : Finset (Ref sig .tc) := {main_v32, main_v33, main_v34}
/-- Those operations write nothing else. -/
theorem tail_writes : ∀ ops ∈ ([hostOps1] : List (List (HloOp τ sig (Elt F)))), ∀ op ∈ ops,
    ∀ b : Ref sig .tc, Proc.devRef .tc b ∈ op.writes → b ∈ tailWrites := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- What is held between grid points: the three scratch buffers at some contents and the generator register. -/
theorem held_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- The three output windows, of whose contents nothing is stated. -/
def outputs : Fin 8 → Bool := fun w => w.val == 5 || w.val == 6 || w.val == 7

/-- The data of the launch: each input's buffer holds its block before and after the body, the outputs and the
    scratch some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The arrays of the data are what the launch finds. -/
theorem A_eq (c : Dev nD) (w : Fin cfg0.W) : (dats m 0 c).A w = V m c (Pipeline.arrRef spec0 w) := by
  dsimp only [dats]
/-- Between points the data holds the scratch. -/
theorem Phi_eq (c : Dev nD) (t) : (dats m 0 c).Φ t = Pipeline.ΦA spec0 c := by dsimp only [dats]

/-- After the body each input's buffer holds its block. -/
theorem after_in (c : Dev nD) (t : Fin cfg0.N) : (dats m 0 c).after 0 t = iblk m c 0 t ∧ (dats m 0 c).after 1 t = iblk m c 1 t
    ∧ (dats m 0 c).after 2 t = iblk m c 2 t ∧ (dats m 0 c).after 3 t = iblk m c 3 t ∧ (dats m 0 c).after 4 t = iblk m c 4 t := by
  dsimp only [dats]; exact ⟨rfl, rfl, rfl, rfl, rfl⟩
/-- Before the body each input's buffer holds its block. -/
theorem before_in (c : Dev nD) (t : Fin cfg0.N) : (∀ d, (dats m 0 c).before 0 t d = iblk m c 0 t) ∧ (∀ d, (dats m 0 c).before 1 t d = iblk m c 1 t)
    ∧ (∀ d, (dats m 0 c).before 2 t d = iblk m c 2 t) ∧ (∀ d, (dats m 0 c).before 3 t d = iblk m c 3 t) ∧ (∀ d, (dats m 0 c).before 4 t d = iblk m c 4 t) :=
  ⟨before0_0_of m (dats m 0 c) (A_eq m c 0) (fun t => (after_in m c t).1) t,
   before0_1_of m (dats m 0 c) (A_eq m c 1) (fun t => (after_in m c t).2.1) t,
   before0_2_of m (dats m 0 c) (A_eq m c 2) (fun t => (after_in m c t).2.2.1) t,
   before0_3_of m (dats m 0 c) (A_eq m c 3) (fun t => (after_in m c t).2.2.2.1) t,
   before0_4_of m (dats m 0 c) (A_eq m c 4) (fun t => (after_in m c t).2.2.2.2) t⟩

/-- Window `w`'s staging buffer at point `t`. -/
abbrev st0 (t : Fin cfg0.N) : Memref sig .tc .vmem S1792x1 .f32 := win0_0.stage (cfg0.slots t 0)
abbrev st1 (t : Fin cfg0.N) : Memref sig .tc .vmem S1792x256 .f32 := win0_1.stage (cfg0.slots t 1)
abbrev st2 (t : Fin cfg0.N) : Memref sig .tc .vmem S1792x1 .f32 := win0_2.stage (cfg0.slots t 2)
abbrev st3 (t : Fin cfg0.N) : Memref sig .tc .vmem S1792x256 .i32 := win0_3.stage (cfg0.slots t 3)
abbrev st4 (t : Fin cfg0.N) : Memref sig .tc .vmem S1792x128 .i32 := win0_4.stage (cfg0.slots t 4)
abbrev st5 (t : Fin cfg0.N) : Memref sig .tc .vmem S1792x1 .f32 := win0_5.stage (cfg0.slots t 5)
abbrev st6 (t : Fin cfg0.N) : Memref sig .tc .vmem S1792x1 .i32 := win0_6.stage (cfg0.slots t 6)
abbrev st7 (t : Fin cfg0.N) : Memref sig .tc .vmem S1792x1 .f32 := win0_7.stage (cfg0.slots t 7)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare d)
    ∗ (∃ d, owns (c : Thread nD τ) (st6 t) fullShare d)
    ∗ (∃ d, owns (c : Thread nD τ) (st7 t) fullShare d))

/-- What it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ (∃ d, owns (c : Thread nD τ) (st5 t) fullShare d)
    ∗ (∃ d, owns (c : Thread nD τ) (st6 t) fullShare d)
    ∗ (∃ d, owns (c : Thread nD τ) (st7 t) fullShare d))

set_option maxHeartbeats 4000000 in
/-- The body at point `t`, from what it is called with to what it returns. -/
theorem sound_body (c : Dev nD) (t : Fin cfg0.N) :
    bodyPre m c t ⊢ wp frame (wpE (defs₀ (F := F)) Variants.none c none) Set.univ (bodyAt0 t) (fun _ => bodyPost m c t) := by
  obtain ⟨a0, a1, a2, a3, a4⟩ := after_in m c t
  obtain ⟨b0, b1, b2, b3, b4⟩ := before_in m c t
  unfold bodyPre bodyPost bodyAt0
  simp only [b0, b1, b2, b3, b4]
  rw [show (dats m 0 c).owesAt () t.succ = (dats m 0 c).owesAt () t.castSucc from rfl, a0, a1, a2, a3, a4]
  rw [Phi_eq, Phi_eq, held_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_runs c (grid0.coords t) _ _ _ _ _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The obligation of the launch about its body, at every point. -/
theorem body_obligation (c : Dev nD) : BodyObligation (dats (F := F) m 0 c) (defs₀ (F := F)) Variants.none () Set.univ outputs := fun t => by
  rw [bigSep_W0, bigSep_W0, defs₀_row]
  exact triple_restated (sound_body m c t) rfl .rfl fun _ => .rfl

set_option backward.isDefEq.respectTransparency.types false in
set_option maxHeartbeats 800000 in
/-- The whole program runs to the end; every buffer outside the outputs and the results is as it was when the launch
    was entered, and every semaphore counter is zero. -/
theorem run_main : θ_run defs (onTc (τ := τ) (main (F := F))) (s₀ m ρ) (fun r => (Pipeline.RDat.FramePostR (cfgs 0) (fun c => (dats m 0 c).toRForget outputs) tailWrites (V m)) r ∧ r.2.sem = fun _ => 0) :=
  Pipeline.θ_run_frame_around_T_track_forget (Q' := _) cfgs (dats m) (0 : Fin 1) launch0 defs₀ Variants.none outputs tailWrites m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := tail_writes)
    (hmain := hmain m Variants.none) (hA := A_eq m) (hin := fun c => by rw [Phi_eq]) (hout := fun c => by rw [Phi_eq])

/-- From any memory the program runs to the end, its arguments end as they were, and every semaphore counter is zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨((h.1 c).2 main_arg0 (Finset.mem_sdiff.mpr ⟨Pipeline.mem_restRefs_of main_arg0 (by decide) (by decide), by decide⟩)).trans (V_main_arg0 m c),
       ((h.1 c).2 main_arg1 (Finset.mem_sdiff.mpr ⟨Pipeline.mem_restRefs_of main_arg1 (by decide) (by decide), by decide⟩)).trans (V_main_arg1 m c)⟩, h.2⟩)
    (run_main m ρ)

end Cert.Kernel.Gen

end
-- ==== Proof.KernLoop.lean ====
/- The kernel's inner loop, as one recursion over the rows of a block: which metrics it carries from row to row, and
   that the history buffer holds, in each row, the metrics before that row. Nothing here depends on what the floats
   are. -/
module

public import proofs.«01_k».proof.Proof.Gen.KernelIdeal.Skeleton
public import proofs.«01_k».proof.Proof.Gen.KernelIdeal.Loops
public import Idealize.ShloMosaic.Lib.WritesUnit
public import Idealize.ShloMosaic.Lib.VecWindow
public import Idealize.ShloMosaic.Lib.Pointwise

@[expose] public section

set_option maxRecDepth 16384

noncomputable section

namespace Cert.Viterbi.Kern

open Idealize.ShloMosaic Idealize.ShloMosaic.TcCoe Cert.KernelIdeal Cert.KernelIdeal.Gen

variable {F : FTy → Type} [FloatOps F]

/-- One step of the metrics `x` with the costs `row`: each lane takes the smaller of two sums, one of a neighbour
    `sa` lanes below (or itself) and a cost of the row's first half, one of a neighbour above (or itself) and a cost of
    the second half, as `mask` says. -/
def stepV (mask : IVec S1x128 1) (sa sb : BitVec 32) (x : FVec F S1x128 .f32) (row : FVec F S1x256 .f32) : FVec F S1x128 .f32 :=
  minimumf (addf (select mask (dynamicRotate 1 sa none x rotates_S1x128_d1) x)
      (extractStridedSlice S1x128 ![0, 0] row slices_S1x256_o0_0_S1x128))
    (addf (select mask x (dynamicRotate 1 sb none x rotates_S1x128_d1))
      (extractStridedSlice S1x128 ![0, 128] row slices_S1x256_o0_128_S1x128))

/-- The lanes' own numbers. -/
def lanes : IVec S1x128 32 := iota .tc S1x128 32 [1] iota_S1x128_d1_w32

/-- The step of a row whose number leaves the remainder `j` when divided by seven. -/
def stepAt (j : ℕ) (x : FVec F S1x128 .f32) (row : FVec F S1x256 .f32) : FVec F S1x128 .f32 :=
  match j with
  | 0 => stepV k0_pay22 1#32 127#32 x row
  | 1 => stepV k0_pay23 2#32 126#32 x row
  | 2 => stepV k0_pay24 4#32 124#32 x row
  | 3 => stepV k0_pay25 8#32 120#32 x row
  | 4 => stepV k0_pay26 16#32 112#32 x row
  | 5 => stepV (cmpi .ne k0_pay27 (broadcast S1x128 0#32)) 32#32 96#32 x row
  | _ => stepV (cmpi .ne (andi lanes (broadcast S1x128 64#32)) (broadcast S1x128 0#32)) 64#32 64#32 x row

/-- Row `t` of a block of costs. -/
def rowAt (L : FVec F S1792x256 .f32) (t : ℕ) : FVec F S1x256 .f32 := fun y => L (ix2 ⟨t % 1792, Nat.mod_lt _ (by decide)⟩ (y 1))

/-- The metrics before row `t`, from the metrics `x` before row 0. -/
def metrics (L : FVec F S1792x256 .f32) (x : FVec F S1x128 .f32) : ℕ → FVec F S1x128 .f32
  | 0 => x
  | t + 1 => stepAt (t % 7) (metrics L x t) (rowAt L t)

/-- The metrics after the row `7 k + j`. -/
theorem metrics_next (L : FVec F S1792x256 .f32) (x : FVec F S1x128 .f32) (k j : ℕ) (hj : j < 7) :
    metrics L x (7 * k + j + 1) = stepAt j (metrics L x (7 * k + j)) (rowAt L (7 * k + j)) := by
  have h : (7 * k + j) % 7 = j := by omega
  rw [metrics, h]

/-- The loop makes 256 trips. -/
theorem trips_eq : k0_t1_loop.trips = 256 := by decide +kernel

section Run

variable (𝒱 : Variants) (c : Dev nD) (bd : Option 𝒱.V) (i : grid0.Coords) (arg1 : Memref sig .tc .vmem S1792x1 .f32) (harg1 : arg1.IsWhole) (arg2 : Memref sig .tc .vmem S1792x256 .f32) (harg2 : arg2.IsWhole) (arg3 : Memref sig .tc .vmem S1792x1 .f32) (harg3 : arg3.IsWhole) (arg4 : Memref sig .tc .vmem S1792x256 .i32) (harg4 : arg4.IsWhole) (arg5 : Memref sig .tc .vmem S1792x128 .i32) (harg5 : arg5.IsWhole) (arg6 : Memref sig .tc .vmem S1792x1 .f32) (harg6 : arg6.IsWhole) (arg7 : Memref sig .tc .vmem S1792x1 .i32) (harg7 : arg7.IsWhole) (arg8 : Memref sig .tc .vmem S1792x1 .f32) (harg8 : arg8.IsWhole) (arg9 : Memref sig .tc .vmem S1x128 .f32) (harg9 : arg9.IsWhole) (arg10 : Memref sig .tc .vmem S1792x128 .f32) (harg10 : arg10.IsWhole) (arg11 : Memref sig .tc .vmem S1792x256 .f32) (harg11 : arg11.IsWhole)

/-- A load of the costs' row `7 k + r` reads that row of what the buffer holds. -/
theorem row_read (X : BufTy.Contents (Elt F) arg11.view.ty) (L : FVec F S1792x256 .f32) (hX : arg11.view.read (Elt F) X = L)
    (k : Fin k0_t1_loop.trips) (r : Fin 7) (inb) :
    View.readAt (Elt F) arg11.view (Rect.unit (s := S1792x256) (k0_off2 k (BitVec.ofNat 32 r.val)) S1x256.size inb).toLoadRect X
      = rowAt L (7 * k.val + r.val) := by
  have hk : k.val < 256 := trips_eq ▸ k.isLt
  have hr := r.isLt
  have hb : ∀ a : Fin 2, (![7 * k.val + r.val, 0] : Fin 2 → ℕ) a + S1x256.size a ≤ S1792x256.size a :=
    Fin.forall_fin_two.mpr ⟨by show 7 * k.val + r.val + 1 ≤ 1792; omega, by show 0 + 256 ≤ 256; omega⟩
  rw [View.readAt_unit arg11.view X inb (k0_off2_eq k r) hb, hX]
  funext y
  refine congrArg L (funext fun a => Fin.ext ?_)
  have h0 : (y 0).val < 1 := (y 0).isLt
  revert a
  refine Fin.forall_fin_two.mpr ⟨?_, ?_⟩
  · show 7 * k.val + r.val + 1 * (y 0).val = (7 * k.val + r.val) % 1792
    omega
  · show 0 + 1 * (y 1).val = (y 1).val
    omega

/-- One trip of the loop: it carries the metrics over seven rows. -/
theorem trip_yield (X : BufTy.Contents (Elt F) arg11.view.ty) (L : FVec F S1792x256 .f32) (hX : arg11.view.read (Elt F) X = L)
    (x : FVec F S1x128 .f32) (k : Fin k0_t1_loop.trips) :
    tripR_k0_t1 (F := F) 𝒱 c bd i arg1 harg1 arg2 harg2 arg3 harg3 arg4 harg4 arg5 harg5 arg6 harg6 arg7 harg7 arg8 harg8 arg9 harg9 arg10 harg10 arg11 harg11 lanes k0_pay22 k0_pay23 k0_pay24 k0_pay25 k0_pay26 k0_pay27 0#32 X k (metrics L x (7 * k.val))
      = metrics L x (7 * k.val + 7) := by
  rw [metrics_next L x k.val 6 (by omega), metrics_next L x k.val 5 (by omega), metrics_next L x k.val 4 (by omega),
    metrics_next L x k.val 3 (by omega), metrics_next L x k.val 2 (by omega), metrics_next L x k.val 1 (by omega),
    metrics_next L x k.val 0 (by omega)]
  rw [show rowAt L (7 * k.val + 0) = _ from (row_read arg11 X L hX k 0 (k0_off2_inb k 0)).symm,
    show rowAt L (7 * k.val + 1) = _ from (row_read arg11 X L hX k 1 (k0_off2_inb k 1)).symm,
    show rowAt L (7 * k.val + 2) = _ from (row_read arg11 X L hX k 2 (k0_off2_inb k 2)).symm,
    show rowAt L (7 * k.val + 3) = _ from (row_read arg11 X L hX k 3 (k0_off2_inb k 3)).symm,
    show rowAt L (7 * k.val + 4) = _ from (row_read arg11 X L hX k 4 (k0_off2_inb k 4)).symm,
    show rowAt L (7 * k.val + 5) = _ from (row_read arg11 X L hX k 5 (k0_off2_inb k 5)).symm,
    show rowAt L (7 * k.val + 6) = _ from (row_read arg11 X L hX k 6 (k0_off2_inb k 6)).symm]
  unfold tripR_k0_t1 trip_k0_t1
  rfl

/-- The piece a trip stores for row `7 k + r`: the metrics before that row. -/
def piece (L : FVec F S1792x256 .f32) (x : FVec F S1x128 .f32) (k : Fin k0_t1_loop.trips) (r : Fin 7) : View.Piece (Elt F) S1792x128 .f32 :=
  ⟨Rect.unit (s := S1792x128) (k0_off1 k (BitVec.ofNat 32 r.val)) S1x128.size (k0_off1_inb k r),
    shapeCast S1x128 (metrics L x (7 * k.val + r.val)) shapeCasts_S1x128_S1x128⟩

/-- One trip of the loop: it stores its seven rows of the history. -/
theorem trip_pieces (X : BufTy.Contents (Elt F) arg11.view.ty) (L : FVec F S1792x256 .f32) (hX : arg11.view.read (Elt F) X = L)
    (x : FVec F S1x128 .f32) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 lanes k0_pay22 k0_pay23 k0_pay24 k0_pay25 k0_pay26 k0_pay27 0#32 X k (metrics L x (7 * k.val))
      = [piece L x k 6, piece L x k 5, piece L x k 4, piece L x k 3, piece L x k 2, piece L x k 1, piece L x k 0] := by
  unfold piece
  simp only [show (6 : Fin 7).val = 6 from rfl, show (5 : Fin 7).val = 5 from rfl, show (4 : Fin 7).val = 4 from rfl,
    show (3 : Fin 7).val = 3 from rfl, show (2 : Fin 7).val = 2 from rfl, show (1 : Fin 7).val = 1 from rfl, show (0 : Fin 7).val = 0 from rfl]
  rw [metrics_next L x k.val 5 (by omega), metrics_next L x k.val 4 (by omega),
    metrics_next L x k.val 3 (by omega), metrics_next L x k.val 2 (by omega), metrics_next L x k.val 1 (by omega),
    metrics_next L x k.val 0 (by omega)]
  rw [show rowAt L (7 * k.val + 0) = _ from (row_read arg11 X L hX k 0 (k0_off2_inb k 0)).symm,
    show rowAt L (7 * k.val + 1) = _ from (row_read arg11 X L hX k 1 (k0_off2_inb k 1)).symm,
    show rowAt L (7 * k.val + 2) = _ from (row_read arg11 X L hX k 2 (k0_off2_inb k 2)).symm,
    show rowAt L (7 * k.val + 3) = _ from (row_read arg11 X L hX k 3 (k0_off2_inb k 3)).symm,
    show rowAt L (7 * k.val + 4) = _ from (row_read arg11 X L hX k 4 (k0_off2_inb k 4)).symm,
    show rowAt L (7 * k.val + 5) = _ from (row_read arg11 X L hX k 5 (k0_off2_inb k 5)).symm]
  unfold tripL_k0_t1 trip_k0_t1
  rfl

/-- Reading under one more piece: its own row reads the metrics before that row, another row what was there. -/
theorem read_piece (L : FVec F S1792x256 .f32) (x : FVec F S1x128 .f32) (k : Fin k0_t1_loop.trips) (r : Fin 7)
    (G : BufTy.Contents (Elt F) arg10.view.ty) (l : List (View.Piece (Elt F) S1792x128 .f32)) (t : Fin 1792) (p : Fin 128) :
    arg10.view.read (Elt F) (arg10.view.writes (Elt F) G (piece L x k r :: l)) (ix2 t p)
      = if t.val = 7 * k.val + r.val then metrics L x t.val (ix2 0 p) else arg10.view.read (Elt F) (arg10.view.writes (Elt F) G l) (ix2 t p) := by
  unfold piece
  split
  · next h =>
    rw [shapeCast_self, ← h]
    exact View.read_writes_cons_rows_of_mem arg10.view G _ _ l (ix2 t p) (ix2 (0 : Fin 1) p) (k0_off1_eq k r)
      (by show t.val = _ + 0; omega) rfl
  · next h =>
    exact View.read_writes_cons_rows_of_not_mem (W := 1) arg10.view G _ _ l (ix2 t p) (k0_off1_eq k r) rfl
      (by show t.val < _ ∨ _ ≤ t.val; omega)

/-- Before trip `k` the loop carries the metrics before row `7 k`, and the history holds, in every earlier row, the
    metrics before that row. -/
theorem state (X : BufTy.Contents (Elt F) arg11.view.ty) (L : FVec F S1792x256 .f32) (hX : arg11.view.read (Elt F) X = L)
    (x : FVec F S1x128 .f32) : ∀ k : ℕ, k ≤ 256 →
    (st_k0_t1 (F := F) 𝒱 c bd i arg1 harg1 arg2 harg2 arg3 harg3 arg4 harg4 arg5 harg5 arg6 harg6 arg7 harg7 arg8 harg8 arg9 harg9 arg10 harg10 arg11 harg11 lanes k0_pay22 k0_pay23 k0_pay24 k0_pay25 k0_pay26 k0_pay27 0#32 X x k).1
        = metrics L x (7 * k)
      ∧ ∀ (G : BufTy.Contents (Elt F) arg10.view.ty) (t : Fin 1792) (p : Fin 128), t.val < 7 * k →
        arg10.view.read (Elt F) (arg10.view.writes (Elt F) G
          (st_k0_t1 (F := F) 𝒱 c bd i arg1 harg1 arg2 harg2 arg3 harg3 arg4 harg4 arg5 harg5 arg6 harg6 arg7 harg7 arg8 harg8 arg9 harg9 arg10 harg10 arg11 harg11 lanes k0_pay22 k0_pay23 k0_pay24 k0_pay25 k0_pay26 k0_pay27 0#32 X x k).2) (ix2 t p)
          = metrics L x t.val (ix2 0 p) := by
  intro k
  induction k with
  | zero => exact fun _ => ⟨rfl, fun _ _ _ h => absurd h (by omega)⟩
  | succ k ih =>
    intro hk
    obtain ⟨h1, h2⟩ := ih (by omega)
    have e := st_k0_t1_succ (F := F) 𝒱 c bd i arg1 harg1 arg2 harg2 arg3 harg3 arg4 harg4 arg5 harg5 arg6 harg6 arg7 harg7 arg8 harg8 arg9 harg9 arg10 harg10 arg11 harg11 lanes k0_pay22 k0_pay23 k0_pay24 k0_pay25 k0_pay26 k0_pay27 0#32 X x
      ⟨k, trips_eq ▸ hk⟩
    dsimp only at e
    rw [e, h1]
    refine ⟨trip_yield 𝒱 c bd i arg1 harg1 arg2 harg2 arg3 harg3 arg4 harg4 arg5 harg5 arg6 harg6 arg7 harg7 arg8 harg8 arg9 harg9 arg10 harg10 arg11 harg11 X L hX x ⟨k, trips_eq ▸ hk⟩, fun G t p ht => ?_⟩
    have e2 := trip_pieces 𝒱 c bd i arg1 harg1 arg2 harg2 arg3 harg3 arg4 harg4 arg5 harg5 arg6 harg6 arg7 harg7 arg8 harg8 arg9 harg9 arg10 harg10 arg11 harg11 X L hX x ⟨k, trips_eq ▸ hk⟩
    dsimp only at e2 ⊢
    rw [e2]
    simp only [List.cons_append, List.nil_append, read_piece]
    repeat' split
    all_goals first | rfl | skip
    refine h2 G t p ?_
    simp only [show (6 : Fin 7).val = 6 from rfl, show (5 : Fin 7).val = 5 from rfl, show (4 : Fin 7).val = 4 from rfl,
      show (3 : Fin 7).val = 3 from rfl, show (2 : Fin 7).val = 2 from rfl, show (1 : Fin 7).val = 1 from rfl, show (0 : Fin 7).val = 0 from rfl] at *
    omega

/-- What the history buffer holds after the loop: in each row the metrics before that row. -/
def history (L : FVec F S1792x256 .f32) (x : FVec F S1x128 .f32) : FVec F S1792x128 .f32 := fun y => metrics L x (y 0).val (ix2 0 (y 1))

/-- After the loop the history buffer holds the history, whatever it held before. -/
theorem history_read (X : BufTy.Contents (Elt F) arg11.view.ty) (L : FVec F S1792x256 .f32) (hX : arg11.view.read (Elt F) X = L)
    (x : FVec F S1x128 .f32) (G : BufTy.Contents (Elt F) arg10.view.ty) :
    arg10.view.read (Elt F) (arg10.view.writes (Elt F) G
          (st_k0_t1 (F := F) 𝒱 c bd i arg1 harg1 arg2 harg2 arg3 harg3 arg4 harg4 arg5 harg5 arg6 harg6 arg7 harg7 arg8 harg8 arg9 harg9 arg10 harg10 arg11 harg11 lanes k0_pay22 k0_pay23 k0_pay24 k0_pay25 k0_pay26 k0_pay27 0#32 X x k0_t1_loop.trips).2)
      = history L x := by
  funext y
  have hy : (y 0).val < 1792 := (y 0).isLt
  rw [trips_eq]
  conv_lhs => rw [show y = ix2 (y 0) (y 1) from eq_ix2 y]
  exact (state 𝒱 c bd i arg1 harg1 arg2 harg2 arg3 harg3 arg4 harg4 arg5 harg5 arg6 harg6 arg7 harg7 arg8 harg8 arg9 harg9 arg10 harg10 arg11 harg11 X L hX x 256 (le_refl _)).2 G (y 0) (y 1) (by omega)

/-- After the loop it carries the metrics after the block's last row. -/
theorem carried (X : BufTy.Contents (Elt F) arg11.view.ty) (L : FVec F S1792x256 .f32) (hX : arg11.view.read (Elt F) X = L)
    (x : FVec F S1x128 .f32) :
    (st_k0_t1 (F := F) 𝒱 c bd i arg1 harg1 arg2 harg2 arg3 harg3 arg4 harg4 arg5 harg5 arg6 harg6 arg7 harg7 arg8 harg8 arg9 harg9 arg10 harg10 arg11 harg11 lanes k0_pay22 k0_pay23 k0_pay24 k0_pay25 k0_pay26 k0_pay27 0#32 X x k0_t1_loop.trips).1
      = metrics L x 1792 := by
  rw [trips_eq]
  exact (state 𝒱 c bd i arg1 harg1 arg2 harg2 arg3 harg3 arg4 harg4 arg5 harg5 arg6 harg6 arg7 harg7 arg8 harg8 arg9 harg9 arg10 harg10 arg11 harg11 X L hX x 256 (le_refl _)).1

end Run

end Cert.Viterbi.Kern

end
-- ==== Proof.KernBody.lean ====
/- The kernel's body with its values: what it leaves in each output and in the carried metrics, from what its inputs
   and the carried metrics held. -/
module

public import proofs.«01_k».proof.Proof.KernLoop
public import proofs.«01_k».proof.Proof.Gen.KernelIdeal.Frame

@[expose] public section

set_option maxRecDepth 16384

noncomputable section

namespace Cert.Viterbi.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition the body resets the carried metrics under: the grid coordinate is zero. -/
abbrev atStart (i : grid0.Coords) : Prop :=
  (Scalar.cmpi .ne (Scalar.extui (Scalar.cmpi .eq (BitVec.ofNat 32 (i 0).val) 0#32)) 0#32) = 1#1

/-- The detected bits a point leaves, from its blocks and the metrics it starts from. -/
def detV (x0 : Vec F S1792x1 .f32) (x1 : Vec F S1792x256 .f32) (x2 : Vec F S1792x1 .f32) (x4 : Vec F S1792x128 .i32) (x : FVec F S1x128 .f32) : FVec F S1792x1 .f32 :=
  k0_pay1 (k0_pay32 (history (k0_pay17 x0 x1 x2) x) x4) (k0_pay33 (history (k0_pay17 x0 x1 x2) x) x4) (k0_pay34 (history (k0_pay17 x0 x1 x2) x) x4)

/-- The detected bits from any history and lane table that agree with a point's. -/
theorem det_congr (x0 : Vec F S1792x1 .f32) (x1 : Vec F S1792x256 .f32) (x2 : Vec F S1792x1 .f32) (x4 : Vec F S1792x128 .i32) (x : FVec F S1x128 .f32)
    {a : Vec F S1792x128 .f32} {b : Vec F S1792x128 .i32} (ha : a = history (k0_pay17 x0 x1 x2) x) (hb : b = x4) :
    k0_pay1 (k0_pay32 a b) (k0_pay33 a b) (k0_pay34 a b) = detV x0 x1 x2 x4 x := by
  subst ha hb; rfl

/-- The confident bits a point leaves. -/
def bitsV (x0 : Vec F S1792x1 .f32) (x1 : Vec F S1792x256 .f32) (x2 : Vec F S1792x1 .f32) (x3 : Vec F S1792x256 .i32) : IVec S1792x1 32 :=
  k0_pay21 (k0_pay19 x0 x1 x2 x3) (Scalar.select (Scalar.cmpi .eq 2#32 0#32) 1#32 2#32) k0_pay20

set_option maxHeartbeats 4000000 in
/-- The body at the first grid point: from its inputs, and whatever else the other buffers hold, it leaves the inputs
    as they were, the three outputs at their values and the metrics carried from zeros over the block's rows. -/
theorem body_first (c : Dev nD) (i : grid0.Coords) (arg1 : Memref sig .tc .vmem S1792x1 .f32) (harg1 : arg1.IsWhole) (arg2 : Memref sig .tc .vmem S1792x256 .f32) (harg2 : arg2.IsWhole) (arg3 : Memref sig .tc .vmem S1792x1 .f32) (harg3 : arg3.IsWhole) (arg4 : Memref sig .tc .vmem S1792x256 .i32) (harg4 : arg4.IsWhole) (arg5 : Memref sig .tc .vmem S1792x128 .i32) (harg5 : arg5.IsWhole) (arg6 : Memref sig .tc .vmem S1792x1 .f32) (harg6 : arg6.IsWhole) (arg7 : Memref sig .tc .vmem S1792x1 .i32) (harg7 : arg7.IsWhole) (arg8 : Memref sig .tc .vmem S1792x1 .f32) (harg8 : arg8.IsWhole) (arg9 : Memref sig .tc .vmem S1x128 .f32) (harg9 : arg9.IsWhole) (arg10 : Memref sig .tc .vmem S1792x128 .f32) (harg10 : arg10.IsWhole) (arg11 : Memref sig .tc .vmem S1792x256 .f32) (harg11 : arg11.IsWhole)
    (x0 : Vec F S1792x1 .f32) (x1 : Vec F S1792x256 .f32) (x2 : Vec F S1792x1 .f32) (x3 : Vec F S1792x256 .i32) (x4 : Vec F S1792x128 .i32)
    (hc0 : atStart i)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (detV x0 x1 x2 x4 k0_pay15) ∗ owns (c : Thread nD τ) arg7 fullShare (bitsV x0 x1 x2 x3) ∗ owns (c : Thread nD τ) arg8 fullShare (k0_pay18 x0 x1 x2) ∗ owns (c : Thread nD τ) arg9 fullShare (metrics (k0_pay17 x0 x1 x2) k0_pay15 1792) ∗ (∃ d, owns (c : Thread nD τ) arg10 fullShare d) ∗ (∃ d, owns (c : Thread nD τ) arg11 fullShare d)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel
  simp only [k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4
  have e0 : (View.readAt (Elt F) arg1.view (Rect.unit (s := S1792x1) ![0, 0] S1792x1.size inb_S1792x1_S1792x1_0_0).toLoadRect (harg1.unread x0)) = x0 := (View.readAt_full _ _ _).trans (harg1.read_unread x0)
  have e1 : (View.readAt (Elt F) arg2.view (Rect.unit (s := S1792x256) ![0, 0] S1792x256.size inb_S1792x256_S1792x256_0_0).toLoadRect (harg2.unread x1)) = x1 := (View.readAt_full _ _ _).trans (harg2.read_unread x1)
  have e2 : (View.readAt (Elt F) arg3.view (Rect.unit (s := S1792x1) ![0, 0] S1792x1.size inb_S1792x1_S1792x1_0_0).toLoadRect (harg3.unread x2)) = x2 := (View.readAt_full _ _ _).trans (harg3.read_unread x2)
  have e3 : (View.readAt (Elt F) arg4.view (Rect.unit (s := S1792x256) ![0, 0] S1792x256.size inb_S1792x256_S1792x256_0_0).toLoadRect (harg4.unread x3)) = x3 := (View.readAt_full _ _ _).trans (harg4.read_unread x3)
  have e4 : (View.readAt (Elt F) arg5.view (Rect.unit (s := S1792x128) ![0, 0] S1792x128.size inb_S1792x128_S1792x128_0_0).toLoadRect (harg5.unread x4)) = x4 := (View.readAt_full _ _ _).trans (harg5.read_unread x4)
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine (View.read_writes_full _ _ _ _ _).trans ?_
    refine det_congr x0 x1 x2 x4 k0_pay15 ?_ rfl
    refine (View.readAt_full _ _ _).trans ?_
    refine (history_read Variants.none c none i arg1 harg1 arg2 harg2 arg3 harg3 arg4 harg4 arg5 harg5 arg6 harg6 arg7 harg7 arg8 harg8 arg9 harg9 arg10 harg10 arg11 harg11 _ (k0_pay17 x0 x1 x2) ?_ _ _).trans (congrArg (history _) ?_)
    · exact View.read_writes_full _ _ _ _ _
    · exact View.readCov_full _ _ _ _ _
  isplitl [H6]
  · iexists _; isplitr; swap; · iexact H6
    ipureintro
    exact View.read_writes_full _ _ _ _ _
  isplitl [H7]
  · iexists _; isplitr; swap; · iexact H7
    ipureintro
    exact View.read_writes_full _ _ _ _ _
  isplitl [HS0]
  · iexists _; isplitr; swap; · iexact HS0
    ipureintro
    refine (View.read_writes_full _ _ _ _ _).trans ?_
    refine (shapeCast_self _ _).trans ?_
    refine (carried Variants.none c none i arg1 harg1 arg2 harg2 arg3 harg3 arg4 harg4 arg5 harg5 arg6 harg6 arg7 harg7 arg8 harg8 arg9 harg9 arg10 harg10 arg11 harg11 _ (k0_pay17 x0 x1 x2) ?_ _).trans (congrArg (fun z => metrics _ z 1792) ?_)
    · exact View.read_writes_full _ _ _ _ _
    · exact View.readCov_full _ _ _ _ _
  isplitl [HS1]
  · iexists _, _; isplitr; swap; · iexact HS1
    ipureintro; rfl
  iexists _, _; isplitr; swap; · iexact HS2
  ipureintro; rfl

set_option maxHeartbeats 4000000 in
/-- The body at a later grid point: from its inputs and the metrics `xs` the point before left, it leaves the inputs as
    they were, the three outputs at their values and the metrics carried from `xs` over the block's rows. -/
theorem body_later (c : Dev nD) (i : grid0.Coords) (arg1 : Memref sig .tc .vmem S1792x1 .f32) (harg1 : arg1.IsWhole) (arg2 : Memref sig .tc .vmem S1792x256 .f32) (harg2 : arg2.IsWhole) (arg3 : Memref sig .tc .vmem S1792x1 .f32) (harg3 : arg3.IsWhole) (arg4 : Memref sig .tc .vmem S1792x256 .i32) (harg4 : arg4.IsWhole) (arg5 : Memref sig .tc .vmem S1792x128 .i32) (harg5 : arg5.IsWhole) (arg6 : Memref sig .tc .vmem S1792x1 .f32) (harg6 : arg6.IsWhole) (arg7 : Memref sig .tc .vmem S1792x1 .i32) (harg7 : arg7.IsWhole) (arg8 : Memref sig .tc .vmem S1792x1 .f32) (harg8 : arg8.IsWhole) (arg9 : Memref sig .tc .vmem S1x128 .f32) (harg9 : arg9.IsWhole) (arg10 : Memref sig .tc .vmem S1792x128 .f32) (harg10 : arg10.IsWhole) (arg11 : Memref sig .tc .vmem S1792x256 .f32) (harg11 : arg11.IsWhole)
    (x0 : Vec F S1792x1 .f32) (x1 : Vec F S1792x256 .f32) (x2 : Vec F S1792x1 .f32) (x3 : Vec F S1792x256 .i32) (x4 : Vec F S1792x128 .i32) (xs : Vec F S1x128 .f32) (hc0 : ¬atStart i)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (detV x0 x1 x2 x4 xs) ∗ owns (c : Thread nD τ) arg7 fullShare (bitsV x0 x1 x2 x3) ∗ owns (c : Thread nD τ) arg8 fullShare (k0_pay18 x0 x1 x2) ∗ owns (c : Thread nD τ) arg9 fullShare (metrics (k0_pay17 x0 x1 x2) xs 1792) ∗ (∃ d, owns (c : Thread nD τ) arg10 fullShare d) ∗ (∃ d, owns (c : Thread nD τ) arg11 fullShare d)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel
  simp only [k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg9.eq_unread hfs0
  have e0 : (View.readAt (Elt F) arg1.view (Rect.unit (s := S1792x1) ![0, 0] S1792x1.size inb_S1792x1_S1792x1_0_0).toLoadRect (harg1.unread x0)) = x0 := (View.readAt_full _ _ _).trans (harg1.read_unread x0)
  have e1 : (View.readAt (Elt F) arg2.view (Rect.unit (s := S1792x256) ![0, 0] S1792x256.size inb_S1792x256_S1792x256_0_0).toLoadRect (harg2.unread x1)) = x1 := (View.readAt_full _ _ _).trans (harg2.read_unread x1)
  have e2 : (View.readAt (Elt F) arg3.view (Rect.unit (s := S1792x1) ![0, 0] S1792x1.size inb_S1792x1_S1792x1_0_0).toLoadRect (harg3.unread x2)) = x2 := (View.readAt_full _ _ _).trans (harg3.read_unread x2)
  have e3 : (View.readAt (Elt F) arg4.view (Rect.unit (s := S1792x256) ![0, 0] S1792x256.size inb_S1792x256_S1792x256_0_0).toLoadRect (harg4.unread x3)) = x3 := (View.readAt_full _ _ _).trans (harg4.read_unread x3)
  have e4 : (View.readAt (Elt F) arg5.view (Rect.unit (s := S1792x128) ![0, 0] S1792x128.size inb_S1792x128_S1792x128_0_0).toLoadRect (harg5.unread x4)) = x4 := (View.readAt_full _ _ _).trans (harg5.read_unread x4)
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine (View.read_writes_full _ _ _ _ _).trans ?_
    refine det_congr x0 x1 x2 x4 xs ?_ rfl
    refine (View.readAt_full _ _ _).trans ?_
    refine (history_read Variants.none c none i arg1 harg1 arg2 harg2 arg3 harg3 arg4 harg4 arg5 harg5 arg6 harg6 arg7 harg7 arg8 harg8 arg9 harg9 arg10 harg10 arg11 harg11 _ (k0_pay17 x0 x1 x2) ?_ _ _).trans (congrArg (history _) ?_)
    · exact View.read_writes_full _ _ _ _ _
    · exact (View.readAt_full _ _ _).trans (harg9.read_unread xs)
  isplitl [H6]
  · iexists _; isplitr; swap; · iexact H6
    ipureintro
    exact View.read_writes_full _ _ _ _ _
  isplitl [H7]
  · iexists _; isplitr; swap; · iexact H7
    ipureintro
    exact View.read_writes_full _ _ _ _ _
  isplitl [HS0]
  · iexists _; isplitr; swap; · iexact HS0
    ipureintro
    refine (View.read_writes_full _ _ _ _ _).trans ?_
    refine (shapeCast_self _ _).trans ?_
    refine (carried Variants.none c none i arg1 harg1 arg2 harg2 arg3 harg3 arg4 harg4 arg5 harg5 arg6 harg6 arg7 harg7 arg8 harg8 arg9 harg9 arg10 harg10 arg11 harg11 _ (k0_pay17 x0 x1 x2) ?_ _).trans (congrArg (fun z => metrics _ z 1792) ?_)
    · exact View.read_writes_full _ _ _ _ _
    · exact (View.readAt_full _ _ _).trans (harg9.read_unread xs)
  isplitl [HS1]
  · iexists _, _; isplitr; swap; · iexact HS1
    ipureintro; rfl
  iexists _, _; isplitr; swap; · iexact HS2
  ipureintro; rfl

end Cert.Viterbi.Kern

end
-- ==== Proof.KernRun.lean ====
/- The kernel's launch with its values: the data of the launch names what each output holds after each grid point and
   what metrics are carried between points, and the whole program runs to the end with the three results read off. -/
module

public import proofs.«01_k».proof.Proof.KernBody
public import Idealize.ShloMosaic.Lib.Claim
public import Idealize.ShloMosaic.Lib.Pipeline.Value

@[expose] public section

set_option maxRecDepth 16384

noncomputable section

namespace Cert.Viterbi.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The costs of the rows of point `t`'s block, as the body computes them from its input blocks. -/
def llrs (c : Dev nD) (t : Fin cfg0.N) : FVec F S1792x256 .f32 := k0_pay17 (iblk m c 0 t) (iblk m c 1 t) (iblk m c 2 t)

/-- The metrics carried into point `n`: zeros at the first, and what the rows of the block before made of them after. -/
def carry (c : Dev nD) : ℕ → FVec F S1x128 .f32
  | 0 => k0_pay15
  | n + 1 => if h : n < cfg0.N then metrics (llrs m c ⟨n, h⟩) (carry c n) 1792 else carry c n

/-- Carrying over one point. -/
theorem carry_next (c : Dev nD) (t : Fin cfg0.N) : carry m c (t.val + 1) = metrics (llrs m c t) (carry m c t.val) 1792 := by
  rw [carry, dif_pos t.isLt]

/-- The reset condition holds at the first point only. -/
theorem start_iff (t : Fin cfg0.N) : atStart (grid0.coords t) ↔ t.val % 28 = 0 := by
  have ht : t.val < 28 := Nat.lt_of_lt_of_eq t.isLt N_0
  have e0 : (grid0.coords t 0).val = t.val / 1 % 28 := Pipeline.Grid.coords_val t 0 (by decide) rfl
  simp only [atStart, e0]; word_cmp

/-- What is held between grid points: the three scratch buffers at some contents and the generator register. -/
theorem held_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- The three scratch buffers after point `n - 1`, the first at the metrics carried into point `n`. -/
def heldAt (c : Dev nD) (n : ℕ) : sProp 𝕄 :=
  iprop(iprop(owns (c : Thread nD τ) (Memref.whole cc0_scratch0) fullShare (carry m c n) ∗ (∃ d, owns (c : Thread nD τ) (Memref.whole cc0_scratch1) fullShare d) ∗ (∃ d, owns (c : Thread nD τ) (Memref.whole cc0_scratch2) fullShare d)) ∗ (∃ r, prngReg c r))

/-- What is held before point `n`: anything in the scratch before the first, the carried metrics before a later one. -/
def PhiS (c : Dev nD) : (n : ℕ) → n ≤ cfg0.N → sProp 𝕄
  | 0, _ => Pipeline.ΦA spec0 c
  | n + 1, _ => heldAt m c (n + 1)

/-- Before the first point. -/
theorem PhiS_zero (c : Dev nD) (n : ℕ) (h : n ≤ cfg0.N) (hz : n = 0) : PhiS m c n h = Pipeline.ΦA spec0 c := by
  subst hz; rfl

/-- Before a later point. -/
theorem PhiS_pos (c : Dev nD) (n : ℕ) (h : n ≤ cfg0.N) (hz : n ≠ 0) : PhiS m c n h = heldAt m c n := by
  cases n with
  | zero => exact absurd rfl hz
  | succ n => rfl

/-- The data of the launch: each input's buffer holds its block before and after the body, each output's what the
    body computes of the point's blocks and the carried metrics. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => detV (iblk m c 0 t) (iblk m c 1 t) (iblk m c 2 t) (iblk m c 4 t) (carry m c t.val)
    | ⟨6, _⟩ => bitsV (iblk m c 0 t) (iblk m c 1 t) (iblk m c 2 t) (iblk m c 3 t)
    | ⟨7, _⟩ => k0_pay18 (iblk m c 0 t) (iblk m c 1 t) (iblk m c 2 t)
  Φ t := PhiS m c t.val (Nat.le_of_lt_succ t.isLt)
  q _ := fullShare
  owed _ := 0

/-- The arrays of the data are what the launch finds. -/
theorem A_eq (c : Dev nD) (w : Fin cfg0.W) : (dats m 0 c).A w = V m c (Pipeline.arrRef spec0 w) := by
  dsimp only [dats]
/-- What is held before point `t`. -/
theorem Phi_castSucc (c : Dev nD) (t : Fin cfg0.N) : (dats m 0 c).Φ t.castSucc = PhiS m c t.val (Nat.le_of_lt t.isLt) := by
  dsimp only [dats]; exact Pipeline.Dat.Φ_castSucc (PhiS m c) t

/-- What is held after point `t`. -/
theorem Phi_succ (c : Dev nD) (t : Fin cfg0.N) : (dats m 0 c).Φ t.succ = heldAt m c (t.val + 1) :=
  show (dats m 0 c).Φ t.succ = PhiS m c (t.val + 1) t.isLt from rfl

/-- The scratch at its carried metrics is the scratch at some contents. -/
theorem held_some (c : Dev nD) (n : ℕ) : heldAt m c n ⊢ Pipeline.ΦA spec0 c := by
  rw [held_eq, heldAt]
  iintro ⟨⟨HS0, HS1, HS2⟩, Hg⟩
  isplitl [HS0 HS1 HS2]
  · isplitl [HS0]
    · iexists _; iexact HS0
    isplitl [HS1]
    · iexact HS1
    iexact HS2
  iexact Hg

/-- After the body each output's buffer holds what the body computes. -/
theorem after_out (c : Dev nD) (t : Fin cfg0.N) :
    (dats m 0 c).after 5 t = detV (iblk m c 0 t) (iblk m c 1 t) (iblk m c 2 t) (iblk m c 4 t) (carry m c t.val)
    ∧ (dats m 0 c).after 6 t = bitsV (iblk m c 0 t) (iblk m c 1 t) (iblk m c 2 t) (iblk m c 3 t)
    ∧ (dats m 0 c).after 7 t = k0_pay18 (iblk m c 0 t) (iblk m c 1 t) (iblk m c 2 t) := by
  dsimp only [dats]; exact ⟨rfl, rfl, rfl⟩

/-- After the body each input's buffer holds its block. -/
theorem after_in (c : Dev nD) (t : Fin cfg0.N) : (dats m 0 c).after 0 t = iblk m c 0 t ∧ (dats m 0 c).after 1 t = iblk m c 1 t
    ∧ (dats m 0 c).after 2 t = iblk m c 2 t ∧ (dats m 0 c).after 3 t = iblk m c 3 t ∧ (dats m 0 c).after 4 t = iblk m c 4 t := by
  dsimp only [dats]; exact ⟨rfl, rfl, rfl, rfl, rfl⟩
/-- Before the body each input's buffer holds its block. -/
theorem before_in (c : Dev nD) (t : Fin cfg0.N) : (∀ d, (dats m 0 c).before 0 t d = iblk m c 0 t) ∧ (∀ d, (dats m 0 c).before 1 t d = iblk m c 1 t)
    ∧ (∀ d, (dats m 0 c).before 2 t d = iblk m c 2 t) ∧ (∀ d, (dats m 0 c).before 3 t d = iblk m c 3 t) ∧ (∀ d, (dats m 0 c).before 4 t d = iblk m c 4 t) :=
  ⟨before0_0_of m (dats m 0 c) (A_eq m c 0) (fun t => (after_in m c t).1) t,
   before0_1_of m (dats m 0 c) (A_eq m c 1) (fun t => (after_in m c t).2.1) t,
   before0_2_of m (dats m 0 c) (A_eq m c 2) (fun t => (after_in m c t).2.2.1) t,
   before0_3_of m (dats m 0 c) (A_eq m c 3) (fun t => (after_in m c t).2.2.2.1) t,
   before0_4_of m (dats m 0 c) (A_eq m c 4) (fun t => (after_in m c t).2.2.2.2) t⟩

/-- Window `w`'s staging buffer at point `t`. -/
abbrev st0 (t : Fin cfg0.N) : Memref sig .tc .vmem S1792x1 .f32 := win0_0.stage (cfg0.slots t 0)
abbrev st1 (t : Fin cfg0.N) : Memref sig .tc .vmem S1792x256 .f32 := win0_1.stage (cfg0.slots t 1)
abbrev st2 (t : Fin cfg0.N) : Memref sig .tc .vmem S1792x1 .f32 := win0_2.stage (cfg0.slots t 2)
abbrev st3 (t : Fin cfg0.N) : Memref sig .tc .vmem S1792x256 .i32 := win0_3.stage (cfg0.slots t 3)
abbrev st4 (t : Fin cfg0.N) : Memref sig .tc .vmem S1792x128 .i32 := win0_4.stage (cfg0.slots t 4)
abbrev st5 (t : Fin cfg0.N) : Memref sig .tc .vmem S1792x1 .f32 := win0_5.stage (cfg0.slots t 5)
abbrev st6 (t : Fin cfg0.N) : Memref sig .tc .vmem S1792x1 .i32 := win0_6.stage (cfg0.slots t 6)
abbrev st7 (t : Fin cfg0.N) : Memref sig .tc .vmem S1792x1 .f32 := win0_7.stage (cfg0.slots t 7)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t))

/-- What the body leaves, with what it did not touch, is what it returns. -/
theorem body_after (c : Dev nD) (t : Fin cfg0.N) :
    iprop((∃ r, prngReg c r) ∗ (dats m 0 c).owesAt () t.castSucc) ⊢
      iprop(iprop(owns (c : Thread nD τ) (st0 t) fullShare (iblk m c 0 t) ∗ owns (c : Thread nD τ) (st1 t) fullShare (iblk m c 1 t) ∗ owns (c : Thread nD τ) (st2 t) fullShare (iblk m c 2 t) ∗ owns (c : Thread nD τ) (st3 t) fullShare (iblk m c 3 t) ∗ owns (c : Thread nD τ) (st4 t) fullShare (iblk m c 4 t)
        ∗ owns (c : Thread nD τ) (st5 t) fullShare (detV (iblk m c 0 t) (iblk m c 1 t) (iblk m c 2 t) (iblk m c 4 t) (carry m c t.val)) ∗ owns (c : Thread nD τ) (st6 t) fullShare (bitsV (iblk m c 0 t) (iblk m c 1 t) (iblk m c 2 t) (iblk m c 3 t)) ∗ owns (c : Thread nD τ) (st7 t) fullShare (k0_pay18 (iblk m c 0 t) (iblk m c 1 t) (iblk m c 2 t))
        ∗ owns (c : Thread nD τ) (Memref.whole cc0_scratch0) fullShare (metrics (llrs m c t) (carry m c t.val) 1792) ∗ (∃ d, owns (c : Thread nD τ) (Memref.whole cc0_scratch1) fullShare d) ∗ (∃ d, owns (c : Thread nD τ) (Memref.whole cc0_scratch2) fullShare d)) -∗ bodyPost m c t) := by
  obtain ⟨a0, a1, a2, a3, a4⟩ := after_in m c t
  obtain ⟨a5, a6, a7⟩ := after_out m c t
  unfold bodyPost
  rw [show (dats m 0 c).owesAt () t.succ = (dats m 0 c).owesAt () t.castSucc from rfl, a0, a1, a2, a3, a4, a5, a6, a7, Phi_succ, heldAt, carry_next]
  iintro ⟨Hg, Ho⟩ ⟨H0, H1, H2, H3, H4, H5, H6, H7, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
/-- The body at point `t`, from what it is called with to what it returns. -/
theorem sound_body (c : Dev nD) (t : Fin cfg0.N) :
    bodyPre m c t ⊢ wp frame (wpE (defs₀ (F := F)) Variants.none c none) Set.univ (bodyAt0 t) (fun _ => bodyPost m c t) := by
  obtain ⟨b0, b1, b2, b3, b4⟩ := before_in m c t
  have ht : t.val < 28 := Nat.lt_of_lt_of_eq t.isLt N_0
  unfold bodyPre bodyAt0
  simp only [b0, b1, b2, b3, b4]
  rw [Phi_castSucc]
  by_cases hz : t.val = 0
  · rw [PhiS_zero m c _ _ hz, held_eq]
    have hx : carry m c t.val = k0_pay15 := by rw [hz]; rfl
    have ha := body_after m c t
    rw [hx] at ha
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid0.coords t) _ _ _ _ _ _ _ _ _ _ _ _ _ _ _ _ _ _ _ _ _ _ (iblk m c 0 t) (iblk m c 1 t) (iblk m c 2 t) (iblk m c 3 t) (iblk m c 4 t) ((start_iff t).mpr (by omega)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iapply ha
    isplitl [Hg]; · iexact Hg
    iexact Ho
  · rw [PhiS_pos m c _ _ hz, heldAt]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid0.coords t) _ _ _ _ _ _ _ _ _ _ _ _ _ _ _ _ _ _ _ _ _ _ (iblk m c 0 t) (iblk m c 1 t) (iblk m c 2 t) (iblk m c 3 t) (iblk m c 4 t) (carry m c t.val) (fun h => absurd ((start_iff t).mp h) (by omega)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iapply (body_after m c t)
    isplitl [Hg]; · iexact Hg
    iexact Ho

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The obligation of the launch about its body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point nothing is asked of the scratch, -/
theorem Phi_in (c : Dev nD) : Pipeline.ΦA spec0 c ⊢ (dats m 0 c).Φ 0 := by
  rw [show (dats m 0 c).Φ 0 = PhiS m c 0 (Nat.zero_le _) from rfl, PhiS_zero m c _ _ rfl]
/-- and after the last nothing is said of it. -/
theorem Phi_out (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by rw [show cfg0.N = 28 from N_0]; decide)]
  exact held_some m c _

set_option backward.isDefEq.respectTransparency.types false in
set_option maxHeartbeats 800000 in
/-- The whole program runs to the end: the arrays of the launch end at what its data says, every other buffer at what
    the host operations after it make of them, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Phi_in m) (hout := Phi_out m)

/-- From any memory the program runs to the end, its arguments end as they were, and every semaphore counter is zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨((h.1 c).2 main_arg0 (Pipeline.mem_restRefs_of main_arg0 (by decide) (by decide))).trans (W_main_arg0 m (dats m) c),
       ((h.1 c).2 main_arg1 (Pipeline.mem_restRefs_of main_arg1 (by decide) (by decide))).trans (W_main_arg1 m (dats m) c)⟩, h.2⟩)
    (run_main m ρ)

end Cert.Viterbi.Kern

end
-- ==== Proof.KernTail.lean ====
/- The kernel's blocks and results by rows: which row of its array a block's row is, and which grid point's row a result's
   row is. -/
module

public import proofs.«01_k».proof.Proof.KernRun
public import Idealize.ShloMosaic.Lib.Pointwise
public import Idealize.ShloMosaic.Lib.StableHlo.RunRead

@[expose] public section

set_option maxRecDepth 16384

noncomputable section

namespace Cert.Viterbi.Kern

open Cert.KernelIdeal Cert.KernelIdeal.Gen
open Idealize.ShloMosaic Idealize.ShloMosaic.TcCoe Idealize.ShloMosaic.Tactic
open Idealize.ShloMosaic.StableHlo Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

/-- Which block of its array each window takes at point `t`: its `t`-th rows, or all of it. -/
theorem index_rows : ∀ t : Fin cfg0.N, ∀ a : Fin 2,
    win0_0.index t a = (if a = 0 then t.val else 0) ∧ win0_1.index t a = 0
    ∧ win0_2.index t a = (if a = 0 then t.val else 0) ∧ win0_3.index t a = 0
    ∧ win0_4.index t a = 0 ∧ win0_5.index t a = (if a = 0 then t.val else 0)
    ∧ win0_6.index t a = (if a = 0 then t.val else 0) ∧ win0_7.index t a = (if a = 0 then t.val else 0) := by
  decide +kernel

/-- Every point writes its output blocks back. -/
theorem flush_all : ∀ t : Fin cfg0.N, win0_5.flush t = true ∧ win0_6.flush t = true ∧ win0_7.flush t = true := by
  decide +kernel

/-- Row `r` of the `n`-th block of 1792 rows is row `1792 n + r` of the array. -/
theorem row_place (a : Fin 2) (n : ℕ) (r : Fin 1792) (R : Fin 50176) (hR : R.val = n * 1792 + r.val) :
    (if a = 0 then n else 0) * S1792x1.size a + (ix2 r (0 : Fin 1) a : Fin (S1792x1.size a)).val = (ix2 R (0 : Fin 1) a : Fin (S50176x1.size a)).val := by
  revert a
  exact Fin.forall_fin_two.mpr ⟨hR.symm, rfl⟩

/-- Row `r` of the block of received values at point `t`. -/
theorem block_recv (t : Fin cfg0.N) (r : Fin 1792) (R : Fin 50176) (hR : R.val = t.val * 1792 + r.val) :
    iblk m c 0 t (ix2 r 0) = V m c main_v14 (ix2 R 0) := by
  show V m c main_v14 ((win0_0.rect t).emb (ix2 r 0)) = _
  refine congrArg (V m c main_v14) (funext fun a => Fin.ext ?_)
  refine (win0_0.rect_emb_val t (ix2 r 0) a).trans ?_
  rw [(index_rows t a).1]
  exact row_place a t.val r R hR

/-- The block of noiseless values is their array. -/
theorem block_lanes (t : Fin cfg0.N) (r : Fin 1792) (q : Fin 256) : iblk m c 1 t (ix2 r q) = V m c main_v12 (ix2 r q) := by
  show V m c main_v12 ((win0_1.rect t).emb (ix2 r q)) = _
  refine congrArg (V m c main_v12) (funext fun a => Fin.ext ?_)
  exact win0_1.rect_emb_val_of_index_zero t a (index_rows t a).2.1 (ix2 r q)

/-- Row `r` of the block of sums at point `t`. -/
theorem block_sums (t : Fin cfg0.N) (r : Fin 1792) (R : Fin 50176) (hR : R.val = t.val * 1792 + r.val) :
    iblk m c 2 t (ix2 r 0) = V m c main_v24 (ix2 R 0) := by
  show V m c main_v24 ((win0_2.rect t).emb (ix2 r 0)) = _
  refine congrArg (V m c main_v24) (funext fun a => Fin.ext ?_)
  refine (win0_2.rect_emb_val t (ix2 r 0) a).trans ?_
  rw [(index_rows t a).2.2.1]
  exact row_place a t.val r R hR

/-- The block of the wide table is the table. -/
theorem block_wide (t : Fin cfg0.N) (r : Fin 1792) (q : Fin 256) : iblk m c 3 t (ix2 r q) = V m c main_v27 (ix2 r q) := by
  show V m c main_v27 ((win0_3.rect t).emb (ix2 r q)) = _
  refine congrArg (V m c main_v27) (funext fun a => Fin.ext ?_)
  exact win0_3.rect_emb_val_of_index_zero t a (index_rows t a).2.2.2.1 (ix2 r q)

/-- The block of the narrow table is the table. -/
theorem block_narrow (t : Fin cfg0.N) (r : Fin 1792) (q : Fin 128) : iblk m c 4 t (ix2 r q) = V m c main_v30 (ix2 r q) := by
  show V m c main_v30 ((win0_4.rect t).emb (ix2 r q)) = _
  refine congrArg (V m c main_v30) (funext fun a => Fin.ext ?_)
  exact win0_4.rect_emb_val_of_index_zero t a (index_rows t a).2.2.2.2.1 (ix2 r q)

/-- Row `r` that point `t` leaves of the detected bits. -/
theorem array_det (t : Fin cfg0.N) (r : Fin 1792) (R : Fin 50176) (hR : R.val = t.val * 1792 + r.val) :
    ((dats m 0 c).arrAt 5 cfg0.N : FVec F S50176x1 .f32) (ix2 R 0) = detV (iblk m c 0 t) (iblk m c 1 t) (iblk m c 2 t) (iblk m c 4 t) (carry m c t.val) (ix2 r 0) := by
  have e : (win0_5.rect t).emb (ix2 r 0) = ix2 R 0 := funext fun a => Fin.ext <| by
    refine (win0_5.rect_emb_val t (ix2 r 0) a).trans ?_
    rw [(index_rows t a).2.2.2.2.2.1]
    exact row_place a t.val r R hR
  have h := (dats m 0 c).arrAt_emb_eq_flushed 5
    (fun u u' _ _ hne => win0_5.disjoint_blk fun he => hne (Fin.ext (by
      have := congrFun he 0; rw [(index_rows u 0).2.2.2.2.2.1, (index_rows u' 0).2.2.2.2.2.1] at this; exact this)))
    t (flush_all t).1 (ix2 r 0)
  rw [← e]
  refine Eq.trans h ?_
  exact congrFun (after_out m c t).1 (ix2 r 0)

/-- Row `r` that point `t` leaves of the confident bits. -/
theorem array_bits (t : Fin cfg0.N) (r : Fin 1792) (R : Fin 50176) (hR : R.val = t.val * 1792 + r.val) :
    ((dats m 0 c).arrAt 6 cfg0.N : IVec S50176x1 32) (ix2 R 0) = bitsV (iblk m c 0 t) (iblk m c 1 t) (iblk m c 2 t) (iblk m c 3 t) (ix2 r 0) := by
  have e : (win0_6.rect t).emb (ix2 r 0) = ix2 R 0 := funext fun a => Fin.ext <| by
    refine (win0_6.rect_emb_val t (ix2 r 0) a).trans ?_
    rw [(index_rows t a).2.2.2.2.2.2.1]
    exact row_place a t.val r R hR
  have h := (dats m 0 c).arrAt_emb_eq_flushed 6
    (fun u u' _ _ hne => win0_6.disjoint_blk fun he => hne (Fin.ext (by
      have := congrFun he 0; rw [(index_rows u 0).2.2.2.2.2.2.1, (index_rows u' 0).2.2.2.2.2.2.1] at this; exact this)))
    t (flush_all t).2.1 (ix2 r 0)
  rw [← e]
  refine Eq.trans h ?_
  exact congrFun (after_out m c t).2.1 (ix2 r 0)

/-- Row `r` that point `t` leaves of the confidences. -/
theorem array_word (t : Fin cfg0.N) (r : Fin 1792) (R : Fin 50176) (hR : R.val = t.val * 1792 + r.val) :
    ((dats m 0 c).arrAt 7 cfg0.N : FVec F S50176x1 .f32) (ix2 R 0) = k0_pay18 (iblk m c 0 t) (iblk m c 1 t) (iblk m c 2 t) (ix2 r 0) := by
  have e : (win0_7.rect t).emb (ix2 r 0) = ix2 R 0 := funext fun a => Fin.ext <| by
    refine (win0_7.rect_emb_val t (ix2 r 0) a).trans ?_
    rw [(index_rows t a).2.2.2.2.2.2.2]
    exact row_place a t.val r R hR
  have h := (dats m 0 c).arrAt_emb_eq_flushed 7
    (fun u u' _ _ hne => win0_7.disjoint_blk fun he => hne (Fin.ext (by
      have := congrFun he 0; rw [(index_rows u 0).2.2.2.2.2.2.2, (index_rows u' 0).2.2.2.2.2.2.2] at this; exact this)))
    t (flush_all t).2.2 (ix2 r 0)
  rw [← e]
  refine Eq.trans h ?_
  exact congrFun (after_out m c t).2.2 (ix2 r 0)

/-- The three results the host operations after the launch leave: the first 50000 rows of the launch's arrays. -/
theorem tail_results :
    Pipeline.afterTail₀ cfgs (dats m) 0 (V0 m) [hostOps1] c main_v32
      = extractStridedSlice S50000x1 ![0, 0] ((dats m 0 c).arrAt 5 cfg0.N) slices_S50176x1_S50000x1_0_0
    ∧ Pipeline.afterTail₀ cfgs (dats m) 0 (V0 m) [hostOps1] c main_v33
      = extractStridedSlice S50000x1 ![0, 0] ((dats m 0 c).arrAt 6 cfg0.N) slices_S50176x1_S50000x1_0_0
    ∧ Pipeline.afterTail₀ cfgs (dats m) 0 (V0 m) [hostOps1] c main_v34
      = extractStridedSlice S50000x1 ![0, 0] ((dats m 0 c).arrAt 7 cfg0.N) slices_S50176x1_S50000x1_0_0 := by
  have h := Pipeline.withArrays_arr spec0 launch0.win.arr_inj c (V0 m c) (fun w => (dats m 0 c).arrAt w cfg0.N)
  have h5 := h 5
  have h6 := h 6
  have h7 := h 7
  unfold Pipeline.afterTail₀
  generalize Pipeline.withArrays (cfgs 0).spec c (V0 m c) (fun w => (dats m 0 c).arrAt w (cfgs 0).N) = W at h5 h6 h7 ⊢
  refine ⟨?_, ?_, ?_⟩
  · show after hostOps1 W (Proc.devRef .tc main_v32) = _
    rw [← h5]; after_reads_simp
  · show after hostOps1 W (Proc.devRef .tc main_v33) = _
    rw [← h6]; after_reads_simp
  · show after hostOps1 W (Proc.devRef .tc main_v34) = _
    rw [← h7]; after_reads_simp

end Cert.Viterbi.Kern

end
-- ==== Proof.Rot.lean ====
/-
  The bit arithmetic behind the kernel's lane order.

  The kernel keeps the 128 path metrics of a step in an order that turns from step to step: at a step whose number
  leaves `r` modulo 7, lane `p` holds the metric of state `rot r p`, the seven-bit word `p` rotated right by `r` places.
  Its 256 likelihoods of the step stand in the order `lane r`: lane `q` holds state `lane r q`.
-/
module

public import Idealize.ShloMosaic.Lib.Pointwise

@[expose] public section

namespace Cert.Viterbi

/-- The seven-bit word `p` rotated right by `r` places. -/
def rot (r p : ℕ) : ℕ := ((p >>> r) ||| (p <<< (7 - r))) &&& 127

/-- The state whose likelihood stands in lane `q` at a step that leaves `r` modulo 7. -/
def lane (r q : ℕ) : ℕ := (rot ((r + 1) % 7) (q &&& 127) <<< 1) ||| (q >>> 7)

/-- A rotated word is a seven-bit word. -/
theorem rot_lt (r p : ℕ) : rot r p < 128 := by
  unfold rot; exact lt_of_le_of_lt Nat.and_le_right (by decide)

/-- Every lane holds one of the 256 states. -/
theorem lane_lt : ∀ r < 7, ∀ q < 256, lane r q < 256 := by decide +kernel

/-- No two lanes of the path metrics hold the same state. -/
theorem rot_inj : ∀ r < 7, ∀ p < 128, rot r p < 128 ∧ rot ((7 - r) % 7) (rot r p) = p := by decide +kernel

/-- Rotating back. -/
theorem rot_back : ∀ r < 7, ∀ p < 128, rot r (rot ((7 - r) % 7) p) = p := by decide +kernel

/-- At the first step of seven the lanes are in state order. -/
theorem rot_zero : ∀ p < 128, rot 0 p = p := by decide +kernel

/-- The lane that holds a state's likelihood. -/
def unlane (r i : ℕ) : ℕ := rot ((7 - (r + 1) % 7) % 7) (i >>> 1) ||| ((i &&& 1) <<< 7)

/-- Every state stands in some lane. -/
theorem lane_unlane : ∀ r < 7, ∀ i < 256, unlane r i < 256 ∧ lane r (unlane r i) = i := by decide +kernel

/-- The two lanes a step combines hold the two predecessors `2 i`, `2 i + 1` of the state `i` that the result's lane
    holds, each with its likelihood's lane. -/
theorem step_lanes : ∀ r < 7, ∀ p < 128,
    2 * rot ((r + 1) % 7) p % 128 = rot r (if p &&& 2 ^ r ≠ 0 then p - 2 ^ r else p) ∧
    (2 * rot ((r + 1) % 7) p + 1) % 128 = rot r (if p &&& 2 ^ r ≠ 0 then p else p + 2 ^ r) ∧
    lane r p = 2 * rot ((r + 1) % 7) p ∧ lane r (p + 128) = 2 * rot ((r + 1) % 7) p + 1 ∧
    (p &&& 2 ^ r ≠ 0 → 2 ^ r ≤ p) ∧ (p &&& 2 ^ r = 0 → p + 2 ^ r < 128) := by decide +kernel

section Metric

variable {α : Type*} (add min' : α → α → α) (zero : α) (l : ℕ → ℕ → α)

/-- The path metrics before step `t`, state by state: all `zero` before the first step; a step adds each state's
    likelihood and keeps, for state `i`, the lesser of the sums at `2 i` and `2 i + 1` (modulo 256). -/
def metric : ℕ → ℕ → α
  | 0, _ => zero
  | t + 1, i => min' (add (metric t (2 * i % 256)) (l t (2 * i % 256)))
      (add (metric t ((2 * i + 1) % 256)) (l t ((2 * i + 1) % 256)))

/-- The upper 128 metrics repeat the lower ones. -/
theorem metric_dup (t i : ℕ) : metric add min' zero l t (i + 128) = metric add min' zero l t i := by
  cases t with
  | zero => rfl
  | succ t =>
    have h1 : 2 * (i + 128) % 256 = 2 * i % 256 := by omega
    have h2 : (2 * (i + 128) + 1) % 256 = (2 * i + 1) % 256 := by omega
    simp only [metric, h1, h2]

/-- A metric at a state is the one at the state modulo 128. -/
theorem metric_mod (t i : ℕ) (h : i < 256) : metric add min' zero l t i = metric add min' zero l t (i % 128) := by
  rcases Nat.lt_or_ge i 128 with hi | hi
  · rw [Nat.mod_eq_of_lt hi]
  · obtain ⟨k, rfl⟩ : ∃ k, i = k + 128 := ⟨i - 128, by omega⟩
    rw [metric_dup, Nat.add_mod_right, Nat.mod_eq_of_lt (by omega)]

/-- One step of the kernel in its turned lane order: from the metrics of step `t` in lane order to those of step
    `t + 1` in the next lane order. -/
theorem metric_step (t p : ℕ) (hp : p < 128) :
    min' (add (metric add min' zero l t (rot (t % 7) (if p &&& 2 ^ (t % 7) ≠ 0 then p - 2 ^ (t % 7) else p))) (l t (lane (t % 7) p)))
        (add (metric add min' zero l t (rot (t % 7) (if p &&& 2 ^ (t % 7) ≠ 0 then p else p + 2 ^ (t % 7)))) (l t (lane (t % 7) (p + 128))))
      = metric add min' zero l (t + 1) (rot ((t + 1) % 7) p) := by
  obtain ⟨h1, h2, h3, h4, -, -⟩ := step_lanes (t % 7) (Nat.mod_lt _ (by decide)) p hp
  have hr : (t % 7 + 1) % 7 = (t + 1) % 7 := by omega
  rw [hr] at h1 h2 h3 h4
  have hlt := rot_lt ((t + 1) % 7) p
  have e1 : 2 * rot ((t + 1) % 7) p % 256 = 2 * rot ((t + 1) % 7) p := Nat.mod_eq_of_lt (by omega)
  have e2 : (2 * rot ((t + 1) % 7) p + 1) % 256 = 2 * rot ((t + 1) % 7) p + 1 := Nat.mod_eq_of_lt (by omega)
  rw [metric, e1, e2, metric_mod _ _ _ _ t (2 * rot ((t + 1) % 7) p) (by omega),
    metric_mod _ _ _ _ t (2 * rot ((t + 1) % 7) p + 1) (by omega), h1, h2, h3, h4]

end Metric

end Cert.Viterbi

end
-- ==== Proof.First.lean ====
/-
  The first best entry of a row, read two ways.

  The reference takes it as an arg-max or arg-min: a fold of pairs (value, index) that keeps the better value and, of
  equal values, the lesser index. The kernel takes the best value of the row first and then the least index among the
  entries equal to it, its entries standing in some other order. Both come out at the same index.
-/
module

public import Idealize.ShloMosaic.Lib.Pointwise

@[expose] public section

open Idealize.ShloMosaic

namespace Cert.Viterbi

/-- A fold whose step keeps one of its two arguments, and one that `le` puts below both, ends at an entry of the list
    (or where it began) that lies below everything folded. -/
theorem foldl_pick {P : Type*} (r : P → P → P) (le : P → P → Prop) (refl : ∀ a, le a a)
    (trans : ∀ a b c, le a b → le b c → le a c) (pick : ∀ a b, r a b = a ∨ r a b = b)
    (left : ∀ a b, le (r a b) a) (right : ∀ a b, le (r a b) b) :
    ∀ (xs : List P) (i : P), (xs.foldl r i = i ∨ xs.foldl r i ∈ xs) ∧ le (xs.foldl r i) i ∧
      ∀ x ∈ xs, le (xs.foldl r i) x := by
  intro xs
  induction xs with
  | nil => intro i; exact ⟨.inl rfl, refl _, fun x hx => absurd hx (by simp)⟩
  | cons x xs ih =>
    intro i
    obtain ⟨hm, hi, hx⟩ := ih (r i x)
    simp only [List.foldl_cons]
    refine ⟨?_, trans _ _ _ hi (left i x), ?_⟩
    · rcases hm with hm | hm
      · rw [hm]
        rcases pick i x with e | e
        · exact .inl e
        · exact .inr (by rw [e]; exact List.mem_cons_self)
      · exact .inr (List.mem_cons_of_mem _ hm)
    · intro y hy
      rcases List.mem_cons.1 hy with rfl | hy
      · exact trans _ _ _ hi (right i _)
      · exact hx y hy

/-- Entry `k` is the first best of `f 0, …, f (n - 1)`: nothing is better than it, and nothing before it equals it. -/
def FirstBest (lt : EReal → EReal → Prop) (n : ℕ) (f : ℕ → EReal) (k : ℕ) : Prop :=
  k < n ∧ (∀ j < n, ¬ lt (f j) (f k)) ∧ ∀ j < k, f j ≠ f k

/-- There is only one first best. -/
theorem FirstBest.unique {lt : EReal → EReal → Prop} (tri : ∀ a b, ¬ lt a b → ¬ lt b a → a = b) {n : ℕ} {f : ℕ → EReal}
    {k k' : ℕ} (h : FirstBest lt n f k) (h' : FirstBest lt n f k') : k = k' := by
  have e : f k = f k' := tri _ _ (h'.2.1 k h.1) (h.2.1 k' h'.1)
  rcases Nat.lt_trichotomy k k' with hlt | hlt | hlt
  · exact absurd e (h'.2.2 k hlt)
  · exact hlt
  · exact absurd e.symm (h.2.2 k' hlt)

/-- Words of numbers below 2³¹ compare, read signed, as the numbers do. -/
theorem slt_ofNat {a b : ℕ} (ha : a < 2 ^ 31) (hb : b < 2 ^ 31) :
    (BitVec.ofNat 32 a).slt (BitVec.ofNat 32 b) = decide (a < b) := by
  have ea : (BitVec.ofNat 32 a).toInt = a := by
    rw [BitVec.toInt_eq_toNat_of_lt] <;> simp only [BitVec.toNat_ofNat] <;> omega
  have eb : (BitVec.ofNat 32 b).toInt = b := by
    rw [BitVec.toInt_eq_toNat_of_lt] <;> simp only [BitVec.toNat_ofNat] <;> omega
  rw [BitVec.slt_eq_decide, ea, eb]
  exact decide_eq_decide.2 (by omega)

/-- The step of an arg-max or arg-min: keep the better value, and of equal values the lesser index. -/
noncomputable def keep (lt : EReal → EReal → Prop) [DecidableRel lt] (a b : EReal × BitVec 32) : EReal × BitVec 32 :=
  (if lt a.1 b.1 then a.1 else b.1, if lt a.1 b.1 ∨ (a.1 = b.1 ∧ a.2.slt b.2 = true) then a.2 else b.2)

section Keep

variable (lt : EReal → EReal → Prop) [DecidableRel lt] (irr : ∀ a, ¬ lt a a) (tr : ∀ a b c, lt a b → lt b c → lt a c)
  (tri : ∀ a b, ¬ lt a b → ¬ lt b a → a = b)

/-- `a` is at least as good as `b`: better in value, or equal in value and no greater in index. -/
def good (a b : EReal × BitVec 32) : Prop := lt a.1 b.1 ∨ (a.1 = b.1 ∧ b.2.slt a.2 = false)

include irr tr tri in
/-- An arg-max or arg-min over `n` entries, begun at index 0 with a value nothing is worse than, ends at the first
    best. The fold's order does not matter, so the list is known by its entries alone. -/
theorem foldl_keep_first {n : ℕ} (hn : 0 < n) (hn' : n ≤ 2 ^ 31) (f : ℕ → EReal) (e : EReal) (he : ∀ a, ¬ lt e a)
    (xs : List (EReal × BitVec 32)) (hxs : ∀ p, p ∈ xs ↔ ∃ j < n, p = (f j, BitVec.ofNat 32 j)) :
    ∃ k, FirstBest lt n f k ∧ (xs.foldl (keep lt) (e, 0#32)).2 = BitVec.ofNat 32 k := by
  have hslt : ∀ a b : BitVec 32, a.slt b = decide (a.toInt < b.toInt) := fun a b => BitVec.slt_eq_decide ..
  obtain ⟨hm, hi, hall⟩ := foldl_pick (keep lt) (good lt)
    (fun a => .inr ⟨rfl, by rw [hslt]; simp⟩)
    (fun a b c hab hbc => by
      rcases hab with hab | ⟨hab, h1⟩ <;> rcases hbc with hbc | ⟨hbc, h2⟩
      · exact .inl (tr _ _ _ hab hbc)
      · exact .inl (hbc ▸ hab)
      · exact .inl (hab ▸ hbc)
      · refine .inr ⟨hab.trans hbc, ?_⟩
        rw [hslt] at h1 h2 ⊢
        simp only [decide_eq_false_iff_not, not_lt] at h1 h2 ⊢
        exact h1.trans h2)
    (fun a b => by
      unfold keep
      by_cases h : lt a.1 b.1
      · exact .inl (by simp [h])
      · by_cases h2 : a.1 = b.1 ∧ a.2.slt b.2 = true
        · exact .inl (Prod.ext (by simp [h, h2.1]) (by simp [h2]))
        · exact .inr (by simp only [h, h2, if_false, false_or]))
    (fun a b => by
      unfold keep
      by_cases h : lt a.1 b.1
      · exact .inr ⟨by simp [h], by rw [hslt]; simp [h]⟩
      · by_cases h2 : a.1 = b.1 ∧ a.2.slt b.2 = true
        · exact .inr ⟨by simp [h, h2], by rw [hslt]; simp [h, h2]⟩
        · simp only [h, h2, if_false, false_or]
          by_cases h3 : lt b.1 a.1
          · exact .inl h3
          · refine .inr ⟨(tri _ _ h h3).symm, ?_⟩
            cases h4 : a.2.slt b.2
            · rfl
            · exact absurd ⟨tri _ _ h h3, h4⟩ h2)
    (fun a b => by
      unfold keep
      by_cases h : lt a.1 b.1
      · exact .inl (by simp [h])
      · by_cases h2 : a.1 = b.1 ∧ a.2.slt b.2 = true
        · refine .inr ⟨by simp [h], ?_⟩
          have := h2.2
          rw [hslt] at this ⊢
          simp only [decide_eq_true_eq] at this
          simp only [if_pos (show lt a.1 b.1 ∨ (a.1 = b.1 ∧ a.2.slt b.2 = true) from Or.inr h2)]
          simpa using this.le
        · exact .inr ⟨by simp [h], by rw [hslt]; simp only [h, h2, if_false, false_or]; simp⟩)
    xs (e, 0#32)
  -- the fold's result is one of the entries
  have key : ∃ k < n, xs.foldl (keep lt) (e, 0#32) = (f k, BitVec.ofNat 32 k) := by
    rcases hm with hm | hm
    · refine ⟨0, hn, ?_⟩
      have h0 := hall (f 0, BitVec.ofNat 32 0) ((hxs _).2 ⟨0, hn, rfl⟩)
      rw [hm] at h0 ⊢
      rcases h0 with h0 | ⟨h0, -⟩
      · exact absurd h0 (he _)
      · simp only at h0
        rw [h0]
    · exact (hxs _).1 hm
  obtain ⟨k, hk, ek⟩ := key
  rw [ek] at hall ⊢
  refine ⟨k, ⟨hk, fun j hj hlt => ?_, fun j hj hje => ?_⟩, rfl⟩
  · rcases hall _ ((hxs _).2 ⟨j, hj, rfl⟩) with h | ⟨h, -⟩
    · exact irr _ (tr _ _ _ h hlt)
    · exact irr (f j) (by have h' : f k = f j := h; rw [h'] at hlt; exact hlt)
  · rcases hall _ ((hxs _).2 ⟨j, hj.trans hk, rfl⟩) with h | ⟨-, h⟩
    · exact irr _ (hje ▸ h)
    · simp only at h
      rw [slt_ofNat (by omega) (by omega)] at h
      simp [hj] at h

end Keep

/-- The least of some words, read signed, begun at a word `c`: it is `c` or one of them, and none of them lies below it. -/
theorem fold_minsi {ι : Type*} (s : Finset ι) (c : BitVec 32) (g : ι → BitVec 32) :
    (s.fold IntOp.minsi c g = c ∨ ∃ q ∈ s, s.fold IntOp.minsi c g = g q) ∧
      ∀ q ∈ s, (s.fold IntOp.minsi c g).toInt ≤ (g q).toInt := by
  classical
  have hmin : ∀ a b : BitVec 32, (IntOp.minsi a b = a ∨ IntOp.minsi a b = b) ∧
      (IntOp.minsi a b).toInt ≤ a.toInt ∧ (IntOp.minsi a b).toInt ≤ b.toInt := by
    intro a b
    unfold IntOp.minsi
    rw [BitVec.slt_eq_decide]
    by_cases h : a.toInt < b.toInt
    · simp only [h, decide_true, if_true]
      exact ⟨.inl trivial, le_refl _, h.le⟩
    · simp only [h, decide_false]
      exact ⟨.inr rfl, not_lt.1 h, le_refl _⟩
  induction s using Finset.induction with
  | empty => exact ⟨.inl rfl, fun q hq => absurd hq (by simp)⟩
  | insert a s ha ih =>
    rw [Finset.fold_insert ha]
    obtain ⟨h1, h2, h3⟩ := hmin (g a) (s.fold IntOp.minsi c g)
    refine ⟨?_, fun q hq => ?_⟩
    · rcases h1 with h1 | h1
      · exact .inr ⟨a, Finset.mem_insert_self .., h1⟩
      · rw [h1]
        rcases ih.1 with h | ⟨q, hq, h⟩
        · exact .inl h
        · exact .inr ⟨q, Finset.mem_insert_of_mem hq, h⟩
    · rcases Finset.mem_insert.1 hq with rfl | hq
      · exact h2
      · exact h3.trans (ih.2 q hq)

/-- The kernel's reading of the first best: lane `q` of `n` holds entry `σ q`, every entry standing in some lane; the
    least index among the lanes whose entry equals the best value is the first best's. -/
theorem fold_minsi_first {lt : EReal → EReal → Prop} {n : ℕ} (hn : n < 2 ^ 31) {f : ℕ → EReal} {k : ℕ}
    (hk : FirstBest lt n f k) (σ : ℕ → ℕ) (hσ : ∀ q < n, σ q < n) (onto : ∀ i < n, ∃ q < n, σ q = i) :
    (Finset.univ : Finset (Fin n)).fold IntOp.minsi 2147483647#32
      (fun q => if f (σ q.val) = f k then BitVec.ofNat 32 (σ q.val) else BitVec.ofNat 32 n) = BitVec.ofNat 32 k := by
  have toI : ∀ a < 2 ^ 31, (BitVec.ofNat 32 a).toInt = a := fun a ha => by
    rw [BitVec.toInt_eq_toNat_of_lt] <;> simp only [BitVec.toNat_ofNat] <;> omega
  obtain ⟨q0, hq0, e0⟩ := onto k hk.1
  have hk31 : k < 2 ^ 31 := hk.1.trans hn
  obtain ⟨hm, hle⟩ := fold_minsi (Finset.univ : Finset (Fin n)) 2147483647#32
    (fun q => if f (σ q.val) = f k then BitVec.ofNat 32 (σ q.val) else BitVec.ofNat 32 n)
  have hle0 := hle ⟨q0, hq0⟩ (Finset.mem_univ _)
  simp only [e0, if_true] at hle0
  rw [toI k hk31] at hle0
  rcases hm with hm | ⟨q, -, hm⟩
  · rw [hm] at hle0
    have : (2147483647#32).toInt = 2147483647 := by decide
    rw [this] at hle0
    have := hk.1
    omega
  · rw [hm] at hle0 ⊢
    by_cases hq : f (σ q.val) = f k
    · simp only [hq, if_true] at hle0 ⊢
      have h1 := hσ q.val q.isLt
      rw [toI _ (h1.trans hn)] at hle0
      have h2 : ¬ σ q.val < k := fun h => hk.2.2 _ h hq
      rw [show σ q.val = k by omega]
    · simp only [hq, if_false] at hle0
      rw [toI n hn] at hle0
      have := hk.1
      omega

/-- The greatest of a row whose lane `q` holds entry `σ q` is the value of its first greatest entry. -/
theorem fold_max_first {n : ℕ} {f : ℕ → EReal} {k : ℕ} (hk : FirstBest (fun a b => b < a) n f k)
    (σ : ℕ → ℕ) (hσ : ∀ q < n, σ q < n) (onto : ∀ i < n, ∃ q < n, σ q = i) :
    (Finset.univ : Finset (Fin n)).fold max (⊥ : EReal) (fun q => f (σ q.val)) = f k := by
  obtain ⟨q0, hq0, e0⟩ := onto k hk.1
  apply le_antisymm
  · rw [Finset.fold_max_le]
    exact ⟨bot_le, fun q _ => not_lt.1 (hk.2.1 _ (hσ q.val q.isLt))⟩
  · rw [Finset.le_fold_max]
    exact .inr ⟨⟨q0, hq0⟩, Finset.mem_univ _, by rw [e0]⟩

/-- The least of a row whose lane `q` holds entry `σ q` is the value of its first least entry. -/
theorem fold_min_first {n : ℕ} {f : ℕ → EReal} {k : ℕ} (hk : FirstBest (fun a b => a < b) n f k)
    (σ : ℕ → ℕ) (hσ : ∀ q < n, σ q < n) (onto : ∀ i < n, ∃ q < n, σ q = i) :
    (Finset.univ : Finset (Fin n)).fold min (⊤ : EReal) (fun q => f (σ q.val)) = f k := by
  obtain ⟨q0, hq0, e0⟩ := onto k hk.1
  apply le_antisymm
  · rw [Finset.fold_min_le]
    exact .inr ⟨⟨q0, hq0⟩, Finset.mem_univ _, by rw [e0]⟩
  · rw [Finset.le_fold_min]
    exact ⟨le_top, fun q _ => not_lt.1 (hk.2.1 _ (hσ q.val q.isLt))⟩

/-- The first least of a row of 256 whose upper half repeats its lower half is the lower half's. -/
theorem FirstBest.half {f : ℕ → EReal} (dup : ∀ i < 128, f (i + 128) = f i) {k : ℕ}
    (hk : FirstBest (fun a b => a < b) 256 f k) : FirstBest (fun a b => a < b) 128 f k := by
  have h : k < 128 := by
    by_contra h
    obtain ⟨i, rfl⟩ : ∃ i, k = i + 128 := ⟨k - 128, by omega⟩
    have := hk.1
    exact hk.2.2 i (by omega) (dup i (by omega)).symm
  exact ⟨h, fun j hj => hk.2.1 j (by omega), hk.2.2⟩

end Cert.Viterbi

end
-- ==== Proof.Arg.lean ====
/-
  The host program's arg-max and arg-min of a row, read as the first best entry.
-/
module

public import proofs.«01_k».proof.Proof.First
public import proofs.«01_k».proof.ReferenceIdeal
public import Idealize.ShloMosaic.PureOps.Ideal.Laws

@[expose] public section

noncomputable section

namespace Cert.Viterbi

open Idealize.ShloMosaic

/-- The row `j` of an array of 256 columns as a sequence. -/
def rowSeq {R : ℕ} (x : (⟨2, ![R, 256]⟩ : Shape).Idx → EReal) (j : Fin R) (i : ℕ) : EReal :=
  if h : i < 256 then x (ix2 j ⟨i, h⟩) else 0

theorem rowSeq_val {R : ℕ} (x : (⟨2, ![R, 256]⟩ : Shape).Idx → EReal) (j : Fin R) (i : Fin 256) :
    rowSeq x j i.val = x (ix2 j i) := dif_pos i.isLt

/-- A row's arg-max or arg-min is the index of its first best entry, whatever order the entries are met in. -/
theorem argReduce_first {R : ℕ} (lt : EReal → EReal → Prop) [DecidableRel lt] (irr : ∀ a, ¬ lt a a)
    (tr : ∀ a b c, lt a b → lt b c → lt a c) (tri : ∀ a b, ¬ lt a b → ¬ lt b a → a = b)
    (f : Ideal .f32 × BitVec 32 → Ideal .f32 × BitVec 32 → Ideal .f32 × BitVec 32) (hf : f = keep lt)
    (x : FVec Ideal ⟨2, ![R, 256]⟩ .f32) (e : EReal) (he : ∀ a, ¬ lt e a)
    {u : Shape} (ix : u.Idx → Ideal .f32) (iy : u.Idx → BitVec 32) (hix : ∀ i, ix i = e) (hiy : ∀ i, iy i = 0#32)
    (h : (⟨2, ![R, 256]⟩ : Shape).ReducesTo [1] ⟨1, ![R]⟩) (hu : 0 < u.numel) (j : Fin R) :
    ∃ k, FirstBest lt 256 (rowSeq x j) k ∧
      (Host.argReduce f x (iotaInDim ⟨2, ![R, 256]⟩ 32 1) ix iy h hu (ix1 j)).2 = BitVec.ofNat 32 k := by
  rw [Ideal.argReduce_eq_reduce2, Host.reduce2_eq_foldl_fiber, hix, hiy, hf]
  refine foldl_keep_first lt irr tr tri (by decide) (by decide) (rowSeq x j) e he _ fun p => ?_
  simp only [Host.argReduceFiber, List.mem_map, List.mem_filter, List.mem_finRange, true_and, decide_eq_true_eq,
    h.fiber_r2_a1]
  constructor
  · rintro ⟨n, ⟨k, hk⟩, rfl⟩
    refine ⟨k.val, k.isLt, ?_⟩
    rw [← hk, rowSeq_val]
    rfl
  · rintro ⟨q, hq, rfl⟩
    refine ⟨(⟨2, ![R, 256]⟩ : Shape).rowMajor (ix2 j ⟨q, hq⟩), ⟨⟨q, hq⟩, ?_⟩, ?_⟩
    · rw [Equiv.symm_apply_apply]; rfl
    · rw [Equiv.symm_apply_apply]
      exact Prod.ext (rowSeq_val x j ⟨q, hq⟩).symm rfl

/-- The reference's arg-max step keeps the greater value, and of equal values the lesser index. -/
theorem argmax_keep : Cert.ReferenceIdeal.reducer_argmax_f32_i32 (F := Ideal) = keep (fun a b => b < a) := by
  funext a b
  have hslt : IntOp.cmpi .slt a.2 b.2 = BitVec.ofBool (a.2.slt b.2) := rfl
  simp only [Cert.ReferenceIdeal.reducer_argmax_f32_i32, keep, Ideal.cmpf_def, Ideal.cmp, hslt, Scalar.select]
  by_cases h1 : b.1 < a.1 <;> by_cases h2 : a.1 = b.1 <;> cases h3 : a.2.slt b.2 <;> simp [h1, h2, IntOp.ori, IntOp.andi]

/-- The reference's arg-min step keeps the lesser value, and of equal values the lesser index. -/
theorem argmin_keep : Cert.ReferenceIdeal.reducer_argmin_f32_i32 (F := Ideal) = keep (fun a b => a < b) := by
  funext a b
  have hslt : IntOp.cmpi .slt a.2 b.2 = BitVec.ofBool (a.2.slt b.2) := rfl
  simp only [Cert.ReferenceIdeal.reducer_argmin_f32_i32, keep, Ideal.cmpf_def, Ideal.cmp, hslt, Scalar.select]
  by_cases h1 : a.1 < b.1 <;> by_cases h2 : a.1 = b.1 <;> cases h3 : a.2.slt b.2 <;> simp [h1, h2, IntOp.ori, IntOp.andi]

theorem lt_tri (a b : EReal) (h : ¬ a < b) (h' : ¬ b < a) : a = b := le_antisymm (not_lt.1 h') (not_lt.1 h)

theorem gt_tri (a b : EReal) (h : ¬ b < a) (h' : ¬ a < b) : a = b := le_antisymm (not_lt.1 h) (not_lt.1 h')

end Cert.Viterbi

end
-- ==== Proof.Model.lean ====
/-
  The detector's mathematics, as functions of a received value and the 256 noiseless values of the states.
-/
module

public import proofs.«01_k».proof.Proof.Rot
public import proofs.«01_k».proof.Proof.Arg

@[expose] public section

noncomputable section

namespace Cert.Viterbi

open Idealize.ShloMosaic

/-- How likely a state of noiseless value `s` is, before scaling, when `y` is received: the exponential of minus the
    squared distance over the constant 0.2. -/
def like (y s : EReal) : EReal :=
  Ideal.exp (Ideal.div (-((y - s) * (y - s))) (Ideal.ofBits .f32 1045220557#32))

/-- The sum of the 256 states' likelihoods. -/
def total (y : EReal) (s : ℕ → EReal) : EReal := ∑ x : Fin 256, like y (s x.val)

/-- State `i`'s probability. -/
def prob (y : EReal) (s : ℕ → EReal) (i : ℕ) : EReal := Ideal.div (like y (s i)) (total y s)

/-- State `i`'s cost: minus the logarithm of its probability. -/
def cost (y : EReal) (s : ℕ → EReal) (i : ℕ) : EReal := -(Ideal.log (prob y s i))

/-- The path metrics before step `t`, from the received values `y`. -/
def path (y : ℕ → EReal) (s : ℕ → EReal) : ℕ → ℕ → EReal :=
  metric (fun a b => a + b) min (0 : EReal) (fun t i => cost (y t) s i)

/-- The table of symbols' bits: entry `k` of state `i`. -/
abbrev symBits (i : Fin 256) (k : Fin 8) : BitVec 32 :=
  Cert.ReferenceIdeal.lit1 (Cert.ReferenceIdeal.S256x8.rowMajor (ix2 i k))

/-- The noiseless value of each state under the channel taps `h`. -/
def prior (h : FVec Ideal ⟨2, ![1, 8]⟩ .f32) (i : ℕ) : EReal :=
  if hi : i < 256 then ∑ x : Fin 8, Ideal.ofBits .f32 (symBits ⟨i, hi⟩ x) * h (ix2 0 x) else 0

theorem prior_val (h : FVec Ideal ⟨2, ![1, 8]⟩ .f32) (i : Fin 256) :
    prior h i.val = ∑ x : Fin 8, Ideal.ofBits .f32 (symBits i x) * h (ix2 0 x) := dif_pos i.isLt

/-- The received values as a sequence, zero past the end. -/
def recv (y : FVec Ideal ⟨2, ![50000, 1]⟩ .f32) (t : ℕ) : EReal :=
  if ht : t < 50000 then y (ix2 ⟨t, ht⟩ 0) else 0

theorem recv_val (y : FVec Ideal ⟨2, ![50000, 1]⟩ .f32) (t : Fin 50000) : recv y t.val = y (ix2 t 0) := dif_pos t.isLt

end Cert.Viterbi

end
-- ==== Proof.KernStep.lean ====
/- One step of the kernel's metrics over exact numbers. -/
module

public import proofs.«01_k».proof.Proof.KernLoop
public import proofs.«01_k».proof.Proof.Model
public import Idealize.ShloMosaic.Lib.Pointwise

@[expose] public section

set_option maxRecDepth 16384

noncomputable section

namespace Cert.Viterbi.Kern

open Cert.KernelIdeal Cert.KernelIdeal.Gen
open Idealize.ShloMosaic Idealize.ShloMosaic.TcCoe Idealize.ShloMosaic.Tactic

/-- Which lanes the mask of bit `r` picks. -/
theorem pick_eq : ∀ r < 7, ∀ p < 128, IntOp.cmpi .ne (IntOp.andi (BitVec.ofNat 32 p) (BitVec.ofNat 32 (2 ^ r))) 0#32
    = if p &&& 2 ^ r ≠ 0 then 1#1 else 0#1 := by decide +kernel

/-- A step at lane `p`, its mask and its two rotations read off. -/
def stepForm (r : ℕ) (x : FVec Ideal S1x128 .f32) (row : FVec Ideal S1x256 .f32) (p : Fin 128) : EReal :=
  min (Scalar.select (IntOp.cmpi .ne (IntOp.andi (BitVec.ofNat 32 p.val) (BitVec.ofNat 32 (2 ^ r))) 0#32)
        (x (ix2 0 ⟨(p.val + 128 - 2 ^ r) % 128, Nat.mod_lt _ (by decide)⟩)) (x (ix2 0 p)) + row (ix2 0 ⟨p.val, by omega⟩))
    (Scalar.select (IntOp.cmpi .ne (IntOp.andi (BitVec.ofNat 32 p.val) (BitVec.ofNat 32 (2 ^ r))) 0#32) (x (ix2 0 p))
        (x (ix2 0 ⟨(p.val + 128 - (128 - 2 ^ r)) % 128, Nat.mod_lt _ (by decide)⟩)) + row (ix2 0 ⟨128 + p.val, by omega⟩))

/-- That step on metrics `f` and costs `g` lane by lane. -/
theorem step_form (r : ℕ) (hr : r < 7) {x : FVec Ideal S1x128 .f32} {row : FVec Ideal S1x256 .f32} {f g : ℕ → EReal}
    (hx : ∀ p : Fin 128, x (ix2 0 p) = f p.val) (hrow : ∀ q : Fin 256, row (ix2 0 q) = g q.val) (p : Fin 128) :
    stepForm r x row p = min (f (if p.val &&& 2 ^ r ≠ 0 then p.val - 2 ^ r else p.val) + g p.val)
      (f (if p.val &&& 2 ^ r ≠ 0 then p.val else p.val + 2 ^ r) + g (p.val + 128)) := by
  obtain ⟨-, -, -, -, hle, hlt⟩ := step_lanes r hr p.val p.isLt
  have hp := p.isLt
  have h2 : 2 ^ r < 128 := by
    have := Nat.pow_lt_pow_right (a := 2) (by decide) hr
    exact this
  unfold stepForm
  simp only [hx, hrow]
  rw [pick_eq r hr p.val p.isLt, Nat.add_comm 128 p.val]
  by_cases h : p.val &&& 2 ^ r ≠ 0
  · have h1 := hle h
    have e : (p.val + 128 - 2 ^ r) % 128 = p.val - 2 ^ r := by generalize 2 ^ r = b at *; omega
    rw [if_pos h, if_pos h, if_pos h, e]
    rfl
  · have h1 := hlt (not_not.mp h)
    have e : (p.val + 128 - (128 - 2 ^ r)) % 128 = p.val + 2 ^ r := by generalize 2 ^ r = b at *; omega
    rw [if_neg h, if_neg h, if_neg h, e]
    rfl

/-- A step of any of the seven kinds on metrics `f` and costs `g` lane by lane. -/
theorem stepAt_apply (r : ℕ) (hr : r < 7) {x : FVec Ideal S1x128 .f32} {row : FVec Ideal S1x256 .f32} {f g : ℕ → EReal}
    (hx : ∀ p : Fin 128, x (ix2 0 p) = f p.val) (hrow : ∀ q : Fin 256, row (ix2 0 q) = g q.val) (p : Fin 128) :
    stepAt (F := Ideal) r x row (ix2 0 p) = min (f (if p.val &&& 2 ^ r ≠ 0 then p.val - 2 ^ r else p.val) + g p.val)
      (f (if p.val &&& 2 ^ r ≠ 0 then p.val else p.val + 2 ^ r) + g (p.val + 128)) := by
  refine Eq.trans ?_ (step_form r hr hx hrow p)
  match r, hr with
  | 0, _ => unfold stepAt stepV k0_pay22 stepForm; dsimp only; pointwise; rfl
  | 1, _ => unfold stepAt stepV k0_pay23 stepForm; dsimp only; pointwise; rfl
  | 2, _ => unfold stepAt stepV k0_pay24 stepForm; dsimp only; pointwise; rfl
  | 3, _ => unfold stepAt stepV k0_pay25 stepForm; dsimp only; pointwise; rfl
  | 4, _ => unfold stepAt stepV k0_pay26 stepForm; dsimp only; pointwise; rfl
  | 5, _ => unfold stepAt stepV k0_pay27 stepForm; dsimp only; pointwise; rfl
  | 6, _ => unfold stepAt stepV lanes stepForm; dsimp only; pointwise; rfl

/-- The carried metrics are the model's, row by row: if they are before step `T` (a multiple of seven) and the block's
    rows hold the costs of the steps from `T` on in lane order, then before the block's row `t` they are the model's
    before step `T + t`. -/
theorem metrics_apply (y s : ℕ → EReal) (L : FVec Ideal S1792x256 .f32) (x : FVec Ideal S1x128 .f32) (T : ℕ) (hT : T % 7 = 0)
    (hx : ∀ p : Fin 128, x (ix2 0 p) = path y s T (rot 0 p.val))
    (hL : ∀ (t : Fin 1792) (q : Fin 256), L (ix2 t q) = cost (y (T + t.val)) s (lane (t.val % 7) q.val)) :
    ∀ t ≤ 1792, ∀ p : Fin 128, metrics L x t (ix2 0 p) = path y s (T + t) (rot (t % 7) p.val)
  | 0, _, p => hx p
  | t + 1, ht, p => by
    have ih := metrics_apply y s L x T hT hx hL t (by omega)
    have hrow : ∀ q : Fin 256, rowAt L t (ix2 0 q) = cost (y (T + t)) s (lane (t % 7) q.val) := fun q => by
      refine Eq.trans ?_ (hL ⟨t, by omega⟩ q)
      show L (ix2 ⟨t % 1792, _⟩ q) = L (ix2 ⟨t, _⟩ q)
      exact congrArg (fun k => L (ix2 k q)) (Fin.ext (Nat.mod_eq_of_lt (by omega)))
    have e : (T + t) % 7 = t % 7 := by omega
    have e1 : (T + t + 1) % 7 = (t + 1) % 7 := by omega
    have hm := metric_step (fun a b => a + b) min (0 : EReal) (fun t i => cost (y t) s i) (T + t) p.val p.isLt
    rw [e, e1] at hm
    rw [metrics]
    exact (stepAt_apply (t % 7) (Nat.mod_lt _ (by decide)) (f := fun p => path y s (T + t) (rot (t % 7) p))
      (g := fun q => cost (y (T + t)) s (lane (t % 7) q)) ih hrow p).trans hm

end Cert.Viterbi.Kern

end
-- ==== Proof.KernPay.lean ====
/- What the kernel's body computes of its blocks over exact numbers, element by element. -/
module

public import proofs.«01_k».proof.Proof.KernBody
public import proofs.«01_k».proof.Proof.Model
public import proofs.«01_k».proof.Proof.First
public import Idealize.ShloMosaic.Lib.Pointwise

@[expose] public section

set_option maxRecDepth 16384

noncomputable section

namespace Cert.Viterbi.Kern

open Cert.KernelIdeal Cert.KernelIdeal.Gen
open Idealize.ShloMosaic Idealize.ShloMosaic.TcCoe Idealize.ShloMosaic.Tactic

/-- The greatest and the least float as extended reals. -/
theorem ofBits_top : Ideal.ofBits .f32 2139095040#32 = ⊤ := by simp [Ideal.ofBits, Ideal.ieee]
theorem ofBits_bot : Ideal.ofBits .f32 4286578688#32 = ⊥ := by simp [Ideal.ofBits, Ideal.ieee]

section Probabilities

variable {x0 : FVec Ideal S1792x1 .f32} {x1 : FVec Ideal S1792x256 .f32} {x2 : FVec Ideal S1792x1 .f32} {y : EReal}
  {s : ℕ → EReal} {σ : ℕ → ℕ} {t : Fin 1792}

/-- A probability: of the state whose noiseless value stands in the lane. -/
theorem prob_lane (h0 : x0 (ix2 t 0) = y) (h1 : ∀ q : Fin 256, x1 (ix2 t q) = s (σ q.val)) (h2 : x2 (ix2 t 0) = total y s)
    (q : Fin 256) : k0_pay16 (F := Ideal) x0 x1 x2 (ix2 t q) = prob y s (σ q.val) := by
  unfold k0_pay16
  pointwise
  rw [h0, h1, h2, zero_sub]
  rfl

/-- A cost. -/
theorem cost_lane (h0 : x0 (ix2 t 0) = y) (h1 : ∀ q : Fin 256, x1 (ix2 t q) = s (σ q.val)) (h2 : x2 (ix2 t 0) = total y s)
    (q : Fin 256) : k0_pay17 (F := Ideal) x0 x1 x2 (ix2 t q) = cost y s (σ q.val) := by
  have h := prob_lane h0 h1 h2 q
  unfold k0_pay17
  generalize k0_pay16 (F := Ideal) x0 x1 x2 = P at h ⊢
  pointwise
  rw [h, zero_sub]
  rfl

/-- The greatest of a row's probabilities. -/
theorem word_lane {k : ℕ} (h0 : x0 (ix2 t 0) = y) (h1 : ∀ q : Fin 256, x1 (ix2 t q) = s (σ q.val)) (h2 : x2 (ix2 t 0) = total y s)
    (hσ : ∀ q < 256, σ q < 256) (onto : ∀ i < 256, ∃ q < 256, σ q = i) (hk : FirstBest (fun a b => b < a) 256 (prob y s) k) :
    k0_pay18 (F := Ideal) x0 x1 x2 (ix2 t 0) = prob y s k := by
  have h := prob_lane h0 h1 h2
  unfold k0_pay18
  generalize k0_pay16 (F := Ideal) x0 x1 x2 = P at h ⊢
  pointwise
  simp only [h, ofBits_bot]
  exact fold_max_first hk σ hσ onto

/-- The lane search of a row of probabilities gives the first state of the greatest probability. -/
theorem first_lane {x3 : IVec S1792x256 32} {k : ℕ} (h0 : x0 (ix2 t 0) = y) (h1 : ∀ q : Fin 256, x1 (ix2 t q) = s (σ q.val)) (h2 : x2 (ix2 t 0) = total y s)
    (h3 : ∀ q : Fin 256, x3 (ix2 t q) = BitVec.ofNat 32 (σ q.val))
    (hσ : ∀ q < 256, σ q < 256) (onto : ∀ i < 256, ∃ q < 256, σ q = i) (hk : FirstBest (fun a b => b < a) 256 (prob y s) k) :
    k0_pay19 (F := Ideal) x0 x1 x2 x3 (ix1 t) = BitVec.ofNat 32 k := by
  have h := prob_lane h0 h1 h2
  have hm := word_lane h0 h1 h2 hσ onto hk
  unfold k0_pay19
  generalize k0_pay16 (F := Ideal) x0 x1 x2 = P at h ⊢
  generalize k0_pay18 (F := Ideal) x0 x1 x2 = Q at hm ⊢
  pointwise
  simp only [h, hm, h3]
  exact fold_minsi_first (by decide) hk σ hσ onto

/-- The remainder the body takes of an index by two. -/
theorem rem_vec : ∀ k < 256, IntOp.remsi ArithUnit.vector (BitVec.ofNat 32 k) (Scalar.select (Scalar.cmpi .eq 2#32 0#32) 1#32 2#32)
    = BitVec.ofNat 32 (k % 2) := by decide +kernel

/-- The sign repair the body makes of a remainder by two leaves it. -/
theorem fix_vec : ∀ k < 2, Scalar.select
    (IntOp.andi (IntOp.xori (IntOp.cmpi .slt (BitVec.ofNat 32 k) 0#32)
        (Scalar.cmpi .slt (Scalar.select (Scalar.cmpi .eq 2#32 0#32) 1#32 2#32) 0#32)) (IntOp.cmpi .ne (BitVec.ofNat 32 k) 0#32))
    (IntOp.addi (BitVec.ofNat 32 k) (Scalar.select (Scalar.cmpi .eq 2#32 0#32) 1#32 2#32)) (BitVec.ofNat 32 k) = BitVec.ofNat 32 k := by
  decide +kernel

/-- A confident bit: the parity of that state. -/
theorem bits_lane {x3 : IVec S1792x256 32} {k : ℕ} (h0 : x0 (ix2 t 0) = y) (h1 : ∀ q : Fin 256, x1 (ix2 t q) = s (σ q.val)) (h2 : x2 (ix2 t 0) = total y s)
    (h3 : ∀ q : Fin 256, x3 (ix2 t q) = BitVec.ofNat 32 (σ q.val))
    (hσ : ∀ q < 256, σ q < 256) (onto : ∀ i < 256, ∃ q < 256, σ q = i) (hk : FirstBest (fun a b => b < a) 256 (prob y s) k) :
    bitsV (F := Ideal) x0 x1 x2 x3 (ix2 t 0) = BitVec.ofNat 32 (k % 2) := by
  have h := first_lane h0 h1 h2 h3 hσ onto hk
  unfold bitsV k0_pay21 k0_pay20
  generalize k0_pay19 (F := Ideal) x0 x1 x2 x3 = P at h ⊢
  pointwise
  rw [h, rem_vec k hk.1]
  exact fix_vec _ (Nat.mod_lt _ (by decide))

end Probabilities

section Detected

variable {a : FVec Ideal S1792x128 .f32} {b : IVec S1792x128 32} {f : ℕ → EReal} {σ : ℕ → ℕ} {t : Fin 1792} {k : ℕ}

/-- The parity of the first least metric's state, found lane by lane. -/
theorem least_lane (ha : ∀ p : Fin 128, a (ix2 t p) = f (σ p.val)) (hb : ∀ p : Fin 128, b (ix2 t p) = BitVec.ofNat 32 (σ p.val))
    (hσ : ∀ q < 128, σ q < 128) (onto : ∀ i < 128, ∃ q < 128, σ q = i) (hk : FirstBest (fun a b => a < b) 128 f k) :
    k0_pay32 (F := Ideal) a b (ix1 t) = BitVec.ofNat 32 (k % 2) := by
  unfold k0_pay32
  pointwise
  simp only [ha, hb, ofBits_top]
  rw [fold_min_first hk σ hσ onto, fold_minsi_first (by decide) hk σ hσ onto]
  exact rem_vec k (hk.1.trans (by decide))

/-- A detected bit: that parity as a float. -/
theorem det_lane (ha : ∀ p : Fin 128, a (ix2 t p) = f (σ p.val)) (hb : ∀ p : Fin 128, b (ix2 t p) = BitVec.ofNat 32 (σ p.val))
    (hσ : ∀ q < 128, σ q < 128) (onto : ∀ i < 128, ∃ q < 128, σ q = i) (hk : FirstBest (fun a b => a < b) 128 f k) :
    k0_pay1 (F := Ideal) (k0_pay32 (F := Ideal) a b) (k0_pay33 (F := Ideal) a b) (k0_pay34 (F := Ideal) a b) (ix2 t 0)
      = (((BitVec.ofNat 32 (k % 2)).toInt : ℝ) : EReal) := by
  have h := least_lane ha hb hσ onto hk
  unfold k0_pay1 k0_pay33 k0_pay34
  generalize k0_pay32 (F := Ideal) a b = P at h ⊢
  pointwise
  rw [h, fix_vec _ (Nat.mod_lt _ (by decide))]
  rfl

end Detected

end Cert.Viterbi.Kern

end
-- ==== Proof.Tables.lean ====
/- The tables of the kernel's program in closed form: which state stands in which lane of each of the seven rows. -/
module

public import proofs.«01_k».proof.KernelIdeal
public import proofs.«01_k».proof.Proof.Model
public import Idealize.ShloMosaic.Lib.Pointwise

@[expose] public section

set_option maxRecDepth 100000

noncomputable section

namespace Cert.Viterbi.Kern

open Cert.KernelIdeal
open Idealize.ShloMosaic

/-- The wide table's entries: seven rows of 256 lanes. -/
theorem wide_entries : ∀ i : Fin 1792, lit2 i = BitVec.ofNat 32 (lane (i.val / 256) (i.val % 256)) := by decide +kernel

/-- The narrow table's entries: seven rows of 128 lanes. -/
theorem narrow_entries : ∀ i : Fin 896, lit3 i = BitVec.ofNat 32 (rot (i.val / 128) (i.val % 128)) := by decide +kernel

/-- The narrow table: lane `p` of row `r` holds the state `rot r p`. -/
theorem narrow_table (r : Fin 7) (p : Fin 128) : lit3 (S7x128.rowMajor (ix2 r p)) = BitVec.ofNat 32 (rot r.val p.val) := by
  have hp := p.isLt
  have hv : (S7x128.rowMajor (ix2 r p)).val = r.val * 128 + p.val := by rw [rowMajor_val2 _ 128 rfl]; rfl
  refine (narrow_entries _).trans ?_
  rw [hv, show (r.val * 128 + p.val) / 128 = r.val by omega, show (r.val * 128 + p.val) % 128 = p.val by omega]

/-- The wide table: lane `q` of row `r` holds the state `lane r q`. -/
theorem wide_table (r : Fin 7) (q : Fin 256) : lit2 (S7x256.rowMajor (ix2 r q)) = BitVec.ofNat 32 (lane r.val q.val) := by
  have hq := q.isLt
  have hv : (S7x256.rowMajor (ix2 r q)).val = r.val * 256 + q.val := by rw [rowMajor_val2 _ 256 rfl]; rfl
  refine (wide_entries _).trans ?_
  rw [hv, show (r.val * 256 + q.val) / 256 = r.val by omega, show (r.val * 256 + q.val) % 256 = q.val by omega]

/-- The table the noiseless values are gathered by, seven rows of 256 lanes. -/
theorem flat_table : ∀ i : Fin 1792, lit1 i = BitVec.ofNat 32 (lane (i.val / 256) (i.val % 256)) := by decide +kernel

/-- The two programs' tables of symbols' bits are the same. -/
theorem symbols_same : ∀ i : Fin 2048, lit0 i = Cert.ReferenceIdeal.lit1 i := by decide +kernel

end Cert.Viterbi.Kern

end
-- ==== Proof.KernHost.lean ====
/- What the kernel's host operations hand to the launch: the padded received values, the noiseless values in lane order
   and the sums of the likelihoods. -/
module

public import proofs.«01_k».proof.Proof.Gen.KernelIdeal.Frame
public import proofs.«01_k».proof.Proof.Tables
public import Idealize.ShloMosaic.Lib.Pointwise
public import Idealize.ShloMosaic.Lib.StableHlo.Predicate
public import Idealize.ShloMosaic.Lib.DynamicIndex
public import Idealize.ShloMosaic.Lib.StableHlo.RunRead

@[expose] public section

set_option maxRecDepth 100000

noncomputable section

namespace Cert.Viterbi.Kern

open Cert.KernelIdeal Cert.KernelIdeal.Gen
open Idealize.ShloMosaic Idealize.ShloMosaic.TcCoe Idealize.ShloMosaic.Tactic
open Idealize.ShloMosaic.StableHlo

/-- The noiseless values as the host computes them. -/
def states (h : FVec Ideal S1x8 .f32) : FVec Ideal S256x1 .f32 :=
  Host.dotGeneral dot_S256x8_S8x1_S256x1_1_0_0_1_n_n none (fun i => FloatOps.ofBits FTy.f32 (lit0 (S256x8.rowMajor i)))
    (transpose S8x1 [1, 0] h transposes_S1x8_S8x1_1_0)

/-- They are the model's. -/
theorem states_apply (h : FVec Ideal S1x8 .f32) (i : Fin 256) : states h (ix2 i 0) = prior h i.val := by
  rw [prior_val]
  unfold states
  pointwise
  exact Finset.sum_congr rfl fun x _ => congrArg (fun b => Ideal.ofBits .f32 b * h (ix2 0 x)) (symbols_same _)

/-- The received values, zeros after them. -/
def padded (y : FVec Ideal S50000x1 .f32) : FVec Ideal S50176x1 .f32 :=
  concatenate S50176x1 0 [⟨S50000x1, y⟩, ⟨S176x1, (broadcastInDim S176x1 ![] bcast_S_S176x1 (constant S_ .f32 0x00000000#32) : FVec Ideal S176x1 .f32)⟩]
    concatenates_S50000x1_S176x1_S50176x1_d0

/-- They are the model's sequence. -/
theorem padded_apply (y : FVec Ideal S50000x1 .f32) (R : Fin 50176) : padded y (ix2 R 0) = recv y R.val := by
  unfold padded recv
  pointwise

/-- The sums of the likelihoods as the host computes them. -/
def sums (y : FVec Ideal S50000x1 .f32) (h : FVec Ideal S1x8 .f32) : FVec Ideal S50176x1 .f32 :=
  let d := subf (broadcastInDim S50176x256 ![0, 1] bcast_S50176x1_S50176x256_0_1 (padded y))
    (broadcastInDim S50176x256 ![0, 1] bcast_S1x256_S50176x256_0_1 (transpose S1x256 [1, 0] (states h) transposes_S256x1_S1x256_1_0))
  shapeCast S50176x1 (Host.reduceAdd (Host.exp (Host.divf (Host.negf (mulf d d))
    (broadcastInDim S50176x256 ![] bcast_S_S50176x256 (constant S_ FTy.f32 0x3E4CCCCD#32)))) (constant S_ FTy.f32 0x00000000#32)
      reducesTo_S50176x256_S50176_d1 h_S_) shapeCasts_S50176_S50176x1

/-- They are the model's totals. -/
theorem sums_apply (y : FVec Ideal S50000x1 .f32) (h : FVec Ideal S1x8 .f32) (R : Fin 50176) :
    sums y h (ix2 R 0) = total (recv y R.val) (prior h) := by
  unfold sums
  pointwise
  simp only [padded_apply, states_apply]
  rfl

/-- The state each place of the gather reads. -/
def places : IVec S1792x1 32 :=
  broadcastInDim S1792x1 ![0] bcast_S1792_S1792x1_0 (select (constantI S1792 1 0#1)
    (addi (fun i => lit1 (S1792.rowMajor i)) (broadcastInDim S1792 ![] bcast_S_S1792 (constantI S_ 32 256#32)))
    (fun i => lit1 (S1792.rowMajor i)))

/-- The noiseless values gathered, seven rows of 256 lanes. -/
def gathered (h : FVec Ideal S1x8 .f32) : FVec Ideal S1792 .f32 :=
  Host.gather gather_S256_S1792x1_S1792_n_0_n_n_0_1_1 (shapeCast S256 (states h) shapeCasts_S256x1_S256) places

/-- A place of the gather. -/
theorem places_apply (p : Fin 1792) : places (ix2 p 0) = BitVec.ofNat 32 (lane (p.val / 256) (p.val % 256)) := by
  unfold places
  pointwise
  have hv : (S1792.rowMajor (ix1 p)).val = p.val := by rw [rowMajor_val1]; rfl
  rw [show S1792.rowMajor (ix1 p) = p from Fin.ext hv]
  exact flat_table p

/-- A column of 256 read as a row. -/
theorem column_row (f : FVec Ideal S256x1 .f32) (i : Fin 256) : shapeCast S256 f shapeCasts_S256x1_S256 (Shape.Idx.ofFin i) = f (ix2 i 0) := by
  rw [show Shape.Idx.ofFin i = ix1 i from funext fun a => by rw [Subsingleton.elim a 0]; rfl]
  pointwise

/-- The gathered values are the model's in lane order. -/
theorem gathered_apply (h : FVec Ideal S1x8 .f32) (p : Fin 1792) :
    gathered h (ix1 p) = prior h (lane (p.val / 256) (p.val % 256)) := by
  have hl : lane (p.val / 256) (p.val % 256) < 256 := lane_lt _ (by omega) _ (Nat.mod_lt _ (by decide))
  have hg := Predicate.gather_take gather_S256_S1792x1_S1792_n_0_n_n_0_1_1 rfl rfl rfl rfl (shapeCast S256 (states h) shapeCasts_S256x1_S256)
    places p (by decide)
  have hp : (places (Predicate.ixP p)).toInt.toNat = lane (p.val / 256) (p.val % 256) := by
    rw [show Predicate.ixP p = ix2 p 0 from eq_ix2 _, places_apply, toInt_ofNat_of_lt (by omega)]; rfl
  refine Eq.trans hg ?_
  refine (column_row (states h) _).trans (Eq.trans ?_ (states_apply h ⟨_, hl⟩))
  refine congrArg (fun k => states h (ix2 k 0)) (Fin.ext ?_)
  show min (places (Predicate.ixP p)).toInt.toNat (256 - 1) = lane (p.val / 256) (p.val % 256)
  rw [hp]; omega

/-- The noiseless values of a block's rows, lane by lane. -/
def lanesOf (h : FVec Ideal S1x8 .f32) : FVec Ideal S1792x256 .f32 :=
  shapeCast S1792x256 (broadcastInDim S256x7x1x256 ![0, 1, 2, 3] bcast_S1x7x1x256_S256x7x1x256_0_1_2_3
    (shapeCast S1x7x1x256 (shapeCast S7x256 (gathered h) shapeCasts_S1792_S7x256) shapeCasts_S7x256_S1x7x1x256))
    shapeCasts_S256x7x1x256_S1792x256

/-- They are the model's in lane order. -/
theorem lanesOf_apply (h : FVec Ideal S1x8 .f32) (t : Fin 1792) (q : Fin 256) :
    lanesOf h (ix2 t q) = prior h (lane (t.val % 7) q.val) := by
  have hg := gathered_apply h
  unfold lanesOf
  generalize gathered h = G at hg ⊢
  pointwise
  have ht := t.isLt
  have hq := q.isLt
  have e := hg ⟨t.val % 7 * 256 + q.val, by omega⟩
  rw [show (t.val % 7 * 256 + q.val) / 256 = t.val % 7 by omega, show (t.val % 7 * 256 + q.val) % 256 = q.val by omega] at e
  exact e

/-- The table of a block's states, seven rows repeated. -/
def wideRows : IVec S1792x256 32 :=
  shapeCast S1792x256 (broadcastInDim S256x7x1x256 ![0, 1, 2, 3] bcast_S1x7x1x256_S256x7x1x256_0_1_2_3
    (shapeCast S1x7x1x256 (fun i : S7x256.Idx => lit2 (S7x256.rowMajor i)) shapeCasts_S7x256_S1x7x1x256))
    shapeCasts_S256x7x1x256_S1792x256

/-- Lane `q` of row `t` holds the state `lane (t % 7) q`. -/
theorem wideRows_apply (t : Fin 1792) (q : Fin 256) : wideRows (ix2 t q) = BitVec.ofNat 32 (lane (t.val % 7) q.val) := by
  have hg : ∀ (r : Fin 7) (q : Fin 256), (fun i : S7x256.Idx => lit2 (S7x256.rowMajor i)) (ix2 r q) = BitVec.ofNat 32 (lane r.val q.val) := wide_table
  unfold wideRows
  generalize (fun i : S7x256.Idx => lit2 (S7x256.rowMajor i)) = G at hg ⊢
  pointwise
  exact hg _ _

/-- The table of the metrics' states, seven rows repeated. -/
def narrowRows : IVec S1792x128 32 :=
  shapeCast S1792x128 (broadcastInDim S256x7x1x128 ![0, 1, 2, 3] bcast_S1x7x1x128_S256x7x1x128_0_1_2_3
    (shapeCast S1x7x1x128 (fun i : S7x128.Idx => lit3 (S7x128.rowMajor i)) shapeCasts_S7x128_S1x7x1x128))
    shapeCasts_S256x7x1x128_S1792x128

/-- Lane `p` of row `t` holds the state `rot (t % 7) p`. -/
theorem narrowRows_apply (t : Fin 1792) (p : Fin 128) : narrowRows (ix2 t p) = BitVec.ofNat 32 (rot (t.val % 7) p.val) := by
  have hg : ∀ (r : Fin 7) (p : Fin 128), (fun i : S7x128.Idx => lit3 (S7x128.rowMajor i)) (ix2 r p) = BitVec.ofNat 32 (rot r.val p.val) := narrow_table
  unfold narrowRows
  generalize (fun i : S7x128.Idx => lit3 (S7x128.rowMajor i)) = G at hg ⊢
  pointwise
  exact hg _ _

section Read

variable (m : (ℓ : Loc nD τ sig) → Buf (Elt Ideal) ℓ) (c : Dev nD)

/-- The launch's first array: the padded received values. -/
theorem read_padded : V m c main_v14 = padded (m ((c.tc : Thread nD τ).loc main_arg0)) := by
  show after hostOps0 (fun b => m (c, b)) (Proc.devRef .tc main_v14) = _
  after_reads_simp
  rfl

/-- The launch's third array: the sums. -/
theorem read_sums : V m c main_v24 = sums (m ((c.tc : Thread nD τ).loc main_arg0)) (m ((c.tc : Thread nD τ).loc main_arg1)) := by
  show after hostOps0 (fun b => m (c, b)) (Proc.devRef .tc main_v24) = _
  after_reads_simp
  rfl

/-- The launch's second array: the noiseless values in lane order. -/
theorem read_lanes : V m c main_v12 = lanesOf (m ((c.tc : Thread nD τ).loc main_arg1)) := by
  show after hostOps0 (fun b => m (c, b)) (Proc.devRef .tc main_v12) = _
  after_reads_simp
  rfl

/-- The launch's fourth array: the wide table. -/
theorem read_wide : V m c main_v27 = wideRows := by
  show after hostOps0 (fun b => m (c, b)) (Proc.devRef .tc main_v27) = _
  after_reads_simp
  rfl

/-- The launch's fifth array: the narrow table. -/
theorem read_narrow : V m c main_v30 = narrowRows := by
  show after hostOps0 (fun b => m (c, b)) (Proc.devRef .tc main_v30) = _
  after_reads_simp
  rfl

end Read

end Cert.Viterbi.Kern

end
-- ==== Proof.KernValue.lean ====
/- The kernel's three results, row by row, in terms of the model: the metrics carried from grid point to grid point are
   the model's, and each row of each result is the first best state's parity or probability. -/
module

public import proofs.«01_k».proof.Proof.KernTail
public import proofs.«01_k».proof.Proof.KernStep
public import proofs.«01_k».proof.Proof.KernPay
public import proofs.«01_k».proof.Proof.KernHost

@[expose] public section

set_option maxRecDepth 16384

noncomputable section

namespace Cert.Viterbi.Kern

open Cert.KernelIdeal Cert.KernelIdeal.Gen
open Idealize.ShloMosaic Idealize.ShloMosaic.TcCoe Idealize.ShloMosaic.Tactic
open Idealize.ShloMosaic.StableHlo

variable (m : (ℓ : Loc nD τ sig) → Buf (Elt Ideal) ℓ) (c : Dev nD)

/-- The received values of this core, zero past the end. -/
abbrev recvOf : ℕ → EReal := recv (m ((c.tc : Thread nD τ).loc main_arg0))

/-- The noiseless values of the states under this core's taps. -/
abbrev priorOf : ℕ → EReal := prior (m ((c.tc : Thread nD τ).loc main_arg1))

/-- There are 28 grid points. -/
theorem points : cfg0.N = 28 := N_0

section Blocks

variable (t : Fin cfg0.N) (r : Fin 1792)

/-- The array row that row `r` of point `t`'s block is. -/
theorem row_lt : t.val * 1792 + r.val < 50176 := by
  have h1 : t.val < 28 := lt_of_lt_of_eq t.isLt points
  have h2 := r.isLt
  omega

/-- A row of the received values. -/
theorem recv_row : iblk m c 0 t (ix2 r 0) = recvOf m c (t.val * 1792 + r.val) := by
  refine (block_recv m c t r ⟨_, row_lt t r⟩ rfl).trans ?_
  rw [read_padded]
  exact padded_apply _ _

/-- A row of the noiseless values. -/
theorem lanes_row (q : Fin 256) : iblk m c 1 t (ix2 r q) = priorOf m c (lane (r.val % 7) q.val) := by
  refine (block_lanes m c t r q).trans ?_
  rw [read_lanes]
  exact lanesOf_apply _ _ _

/-- A row of the sums. -/
theorem sums_row : iblk m c 2 t (ix2 r 0) = total (recvOf m c (t.val * 1792 + r.val)) (priorOf m c) := by
  refine (block_sums m c t r ⟨_, row_lt t r⟩ rfl).trans ?_
  rw [read_sums]
  exact sums_apply _ _ _

/-- A row of the wide table. -/
theorem wide_row (q : Fin 256) : iblk m c 3 t (ix2 r q) = BitVec.ofNat 32 (lane (r.val % 7) q.val) := by
  refine (block_wide m c t r q).trans ?_
  rw [read_wide]
  exact wideRows_apply r q

/-- A row of the narrow table. -/
theorem narrow_row (q : Fin 128) : iblk m c 4 t (ix2 r q) = BitVec.ofNat 32 (rot (r.val % 7) q.val) := by
  refine (block_narrow m c t r q).trans ?_
  rw [read_narrow]
  exact narrowRows_apply r q

/-- A row of the costs. -/
theorem llrs_row (q : Fin 256) :
    llrs m c t (ix2 r q) = cost (recvOf m c (t.val * 1792 + r.val)) (priorOf m c) (lane (r.val % 7) q.val) :=
  cost_lane (σ := lane (r.val % 7)) (recv_row m c t r) (lanes_row m c t r) (sums_row m c t r) q

end Blocks

/-- The metrics handed to the first point are all zero. -/
theorem start_zero (p : Fin 128) : k0_pay15 (F := Ideal) (ix2 0 p) = 0 := by
  unfold k0_pay15
  pointwise

/-- The metrics handed to point `n` are the model's before step `1792 n`. -/
theorem carry_path : ∀ n ≤ 28, ∀ p : Fin 128, carry m c n (ix2 0 p) = path (recvOf m c) (priorOf m c) (n * 1792) (rot 0 p.val)
  | 0, _, p => start_zero p
  | n + 1, hn, p => by
    have ht : n < cfg0.N := by rw [points]; omega
    have h := carry_next m c ⟨n, ht⟩
    refine (congrFun h (ix2 0 p)).trans ?_
    refine (metrics_apply (recvOf m c) (priorOf m c) _ _ (n * 1792) (by omega) (carry_path n (by omega))
      (fun r q => llrs_row m c ⟨n, ht⟩ r q) 1792 le_rfl p).trans ?_
    rw [show n * 1792 + 1792 = (n + 1) * 1792 by ring]

/-- A row of the stored metrics. -/
theorem history_row (t : Fin cfg0.N) (r : Fin 1792) (p : Fin 128) :
    history (llrs m c t) (carry m c t.val) (ix2 r p)
      = path (recvOf m c) (priorOf m c) (t.val * 1792 + r.val) (rot (r.val % 7) p.val) := by
  have ht : t.val < 28 := lt_of_lt_of_eq t.isLt points
  exact metrics_apply (recvOf m c) (priorOf m c) _ _ (t.val * 1792) (by omega) (carry_path m c t.val (by omega))
    (fun r q => llrs_row m c t r q) r.val r.isLt.le p

/-- The first 50000 rows of a column. -/
theorem slice_apply {α : Type} (A : S50176x1.Idx → α) (T : Fin 50000) :
    extractStridedSlice S50000x1 ![0, 0] A slices_S50176x1_S50000x1_0_0 (ix2 T 0) = A (ix2 ⟨T.val, by omega⟩ 0) := by
  pointwise

section Results

variable (T : Fin 50000)

/-- The point that computes row `T`. -/
def pointOf : Fin cfg0.N := ⟨T.val / 1792, by rw [points]; omega⟩

/-- The row of its block. -/
def rowOf : Fin 1792 := ⟨T.val % 1792, Nat.mod_lt _ (by decide)⟩

theorem place : T.val = (pointOf T).val * 1792 + (rowOf T).val := by
  show T.val = T.val / 1792 * 1792 + T.val % 1792
  omega

/-- The lanes of a row hold every state's metric. -/
theorem rot_onto (r : ℕ) (hr : r < 7) : ∀ i < 128, ∃ q < 128, rot r q = i :=
  fun i hi => ⟨rot ((7 - r) % 7) i, rot_lt _ _, rot_back r hr i hi⟩

/-- The lanes of a row hold every state's probability. -/
theorem lane_onto (r : ℕ) (hr : r < 7) : ∀ i < 256, ∃ q < 256, lane r q = i :=
  fun i hi => ⟨unlane r i, lane_unlane r hr i hi⟩

/-- A detected bit: the parity of the first state of least metric. -/
theorem det_row {k : ℕ} (hk : FirstBest (fun a b => a < b) 256 (path (recvOf m c) (priorOf m c) T.val) k) :
    (Pipeline.afterTail₀ cfgs (dats m) 0 (V0 m) [hostOps1] c main_v32 : FVec Ideal S50000x1 .f32) (ix2 T 0)
      = (((BitVec.ofNat 32 (k % 2)).toInt : ℝ) : EReal) := by
  have hr : (rowOf T).val % 7 < 7 := Nat.mod_lt _ (by decide)
  have hk' := FirstBest.half (fun i _ => metric_dup _ _ _ _ T.val i) hk
  refine (congrFun (tail_results m c).1 (ix2 T 0)).trans ?_
  refine (slice_apply _ T).trans ?_
  refine (array_det m c (pointOf T) (rowOf T) ⟨T.val, by omega⟩ (place T)).trans ?_
  refine det_lane (σ := rot ((rowOf T).val % 7)) (f := path (recvOf m c) (priorOf m c) T.val) ?_ (narrow_row m c (pointOf T) (rowOf T))
    (fun q _ => rot_lt _ q) (rot_onto _ hr) hk'
  intro p
  have h := history_row m c (pointOf T) (rowOf T) p
  rw [← place T] at h
  exact h

/-- A confident bit: the parity of the first state of greatest probability. -/
theorem bits_row {k : ℕ} (hk : FirstBest (fun a b => b < a) 256 (prob (recvOf m c T.val) (priorOf m c)) k) :
    (Pipeline.afterTail₀ cfgs (dats m) 0 (V0 m) [hostOps1] c main_v33 : IVec S50000x1 32) (ix2 T 0) = BitVec.ofNat 32 (k % 2) := by
  have hr : (rowOf T).val % 7 < 7 := Nat.mod_lt _ (by decide)
  refine (congrFun (tail_results m c).2.1 (ix2 T 0)).trans ?_
  refine (slice_apply _ T).trans ?_
  refine (array_bits m c (pointOf T) (rowOf T) ⟨T.val, by omega⟩ (place T)).trans ?_
  rw [place T] at hk
  exact bits_lane (σ := lane ((rowOf T).val % 7)) (recv_row m c _ _) (lanes_row m c _ _) (sums_row m c _ _) (wide_row m c _ _)
    (fun q hq => lane_lt _ hr q hq) (lane_onto _ hr) hk

/-- A confidence: that state's probability. -/
theorem word_row {k : ℕ} (hk : FirstBest (fun a b => b < a) 256 (prob (recvOf m c T.val) (priorOf m c)) k) :
    (Pipeline.afterTail₀ cfgs (dats m) 0 (V0 m) [hostOps1] c main_v34 : FVec Ideal S50000x1 .f32) (ix2 T 0)
      = prob (recvOf m c T.val) (priorOf m c) k := by
  have hr : (rowOf T).val % 7 < 7 := Nat.mod_lt _ (by decide)
  refine (congrFun (tail_results m c).2.2 (ix2 T 0)).trans ?_
  refine (slice_apply _ T).trans ?_
  refine (array_word m c (pointOf T) (rowOf T) ⟨T.val, by omega⟩ (place T)).trans ?_
  rw [place T] at hk ⊢
  exact word_lane (σ := lane ((rowOf T).val % 7)) (recv_row m c _ _) (lanes_row m c _ _) (sums_row m c _ _)
    (fun q hq => lane_lt _ hr q hq) (lane_onto _ hr) hk

end Results

end Cert.Viterbi.Kern

end
-- ==== Proof.RefLoop.lean ====
/-
  One trip of the reference's loop, stretch by stretch: what each stretch of its operations leaves in the buffer that the
  next ones read, as a term over the contents before it.
-/
module

public import proofs.«01_k».proof.Proof.Gen.ReferenceIdeal.Run
public import Idealize.ShloMosaic.Lib.Pointwise
public import Idealize.ShloMosaic.Lib.StableHlo.RunClose

@[expose] public section

set_option maxRecDepth 100000

noncomputable section

namespace Cert.Viterbi.Ref

open Cert.ReferenceIdeal Cert.ReferenceIdeal.Gen Cert.ReferenceIdeal.Value
open Idealize.ShloMosaic Idealize.ShloMosaic.TcCoe Idealize.ShloMosaic.Tactic
open Idealize.ShloMosaic.StableHlo

/-- The remainder of a word by two as the host program computes it: the signed remainder, moved by the divisor when its
    sign is not the divisor's. -/
def rem2 (w : BitVec 32) : BitVec 32 :=
  let d := Scalar.select (IntOp.cmpi .eq 2#32 0#32) 1#32 2#32
  let r := IntOp.remsi .host w d
  Scalar.select (IntOp.andi (IntOp.cmpi .ne (IntOp.cmpi .slt r 0#32) (IntOp.cmpi .slt d 0#32)) (IntOp.cmpi .ne r 0#32))
    (IntOp.addi r d) r

variable (V : Valuation τ sig (Elt Ideal))

/-- The first stretch takes the trip's row of the log-probabilities. -/
theorem row_read : after while0Ops0 V (Proc.devRef .tc main_while0b_v26)
    = shapeCast S256 (Host.dynamicSlice S1x256 (V (Proc.devRef .tc main_v25_0))
        (fun k => ((![V (Proc.devRef .tc main_v25_2), constantI S_ 32 0#32] : Fin 2 → IVec S_ 32) k (Shape.Idx.first h_S_)).toInt)
        sliceFits_S50000x256_S1x256) shapeCasts_S1x256_S256 := by
  unfold while0Ops0
  after_results_entrywise []

/-- The least metric with its first index as the reference takes them. -/
def argmin (s : FVec Ideal S1x256 .f32) : S1.Idx → Ideal .f32 × BitVec 32 :=
  Host.argReduce (reducer_argmin_f32_i32 (F := Ideal)) s (iotaInDim S1x256 32 1)
    (constant S_ .f32 0x7F800000#32) (constantI S_ 32 0#32) reducesTo_S1x256_S1_d1 h_S_

theorem argmin_eq (s : FVec Ideal S1x256 .f32) : argmin s =
    Host.argReduce (reducer_argmin_f32_i32 (F := Ideal)) s (iotaInDim S1x256 32 1)
      (constant S_ .f32 0x7F800000#32) (constantI S_ 32 0#32) reducesTo_S1x256_S1_d1 h_S_ := rfl

/-- The second stretch takes the index of the first least metric. -/
theorem argmin_read : after while0Ops0_1 V (Proc.devRef .tc main_while0b_v27)
    = (fun j => (argmin (V (Proc.devRef .tc main_v25_3)) j).2 : IVec S1 32) := by
  after_results
  rw [argmin_eq]
  rfl

/-- The third stretch is the divisor 2. -/
theorem two_read : after while0Ops0_2 V (Proc.devRef .tc main_while0b_c_11) = constantI S_ 32 2#32 := by
  after_results

/-- The fourth stretch takes that index's remainder by 2. -/
theorem rem_read (h : V (Proc.devRef .tc main_while0b_c_11) = constantI S_ 32 2#32) :
    after while0Ops0_3 V (Proc.devRef .tc main_while0b_v28) = fun j => rem2 (V (Proc.devRef .tc main_while0b_v27) j) := by
  after_reads_simp
  rw [h]
  rfl

/-- The fifth stretch makes the remainder a float. -/
theorem float_read : after while0Ops0_4 V (Proc.devRef .tc main_while0b_v29)
    = (sitofp .f32 (V (Proc.devRef .tc main_while0b_v28) : IVec S1 32) : FVec Ideal S1 .f32) := by
  after_results

/-- The table of predecessors, flat, as the fifth stretch's gather takes it. -/
def pred (T : IVec S256x2 32) : IVec S512 32 :=
  select (cmpi .slt (shapeCast S512 T shapeCasts_S256x2_S512) (broadcastInDim S512 ![] bcast_S_S512 (constantI S_ 32 0#32)))
    (addi (shapeCast S512 T shapeCasts_S256x2_S512) (broadcastInDim S512 ![] bcast_S_S512 (constantI S_ 32 256#32)))
    (shapeCast S512 T shapeCasts_S256x2_S512)

/-- The next metrics: the metrics plus the row's likelihoods, gathered at the predecessors, the least of each pair. -/
def next (s : FVec Ideal S1x256 .f32) (row : FVec Ideal S256 .f32) (T : IVec S256x2 32) : FVec Ideal S1x256 .f32 :=
  Host.reduce FloatOps.minimumf
    (shapeCast S1x256x2
      (Host.gather gather_S1x256_S512x1_S1x512_0_1_n_n_1_1_11
        (addf s (broadcastInDim S1x256 ![1] bcast_S256_S1x256_1 (Host.negf row)))
        (broadcastInDim S512x1 ![0] bcast_S512_S512x1_0 (pred T)))
      shapeCasts_S1x512_S1x256x2)
    (constant S_ .f32 0x7F800000#32) reducesTo_S1x256x2_S1x256_d2 h_S_

/-- The fifth stretch makes the next metrics. -/
theorem next_read : after while0Ops0_4 V (Proc.devRef .tc main_while0b_v42)
    = next (V (Proc.devRef .tc main_v25_3)) (V (Proc.devRef .tc main_while0b_v26)) (V (Proc.devRef .tc main_v25_1)) := by
  after_reads_simp
  rfl

/-- The sixth stretch writes the trip's row of the detected bits. -/
theorem update_read : after while0Ops0_5 V (Proc.devRef .tc main_while0b_v43)
    = Host.dynamicUpdateSlice (V (Proc.devRef .tc main_v25_4))
        (broadcastInDim S1x1 ![1] bcast_S1_S1x1_1 (V (Proc.devRef .tc main_while0b_v29)))
        (fun k => ((![V (Proc.devRef .tc main_v25_2), constantI S_ 32 0#32] : Fin 2 → IVec S_ 32) k (Shape.Idx.first h_S_)).toInt)
        updateFits_S50000x1_S1x1 := by
  unfold while0Ops0_5
  after_results_entrywise []

/-- The last stretch hands the next metrics on. -/
theorem carry_metric : after while0Ops0_6 V (Proc.devRef .tc main_v25_3) = V (Proc.devRef .tc main_while0b_v42) := by
  after_results
  rfl

/-- The last stretch hands the detected bits on. -/
theorem carry_det : after while0Ops0_6 V (Proc.devRef .tc main_v25_4) = V (Proc.devRef .tc main_while0b_v43) := by
  after_results
  rfl

/-- A buffer that the first stretches of a trip do not write keeps its contents through them. -/
theorem first_keeps (b : Ref sig .tc) (hc : b ∉ condOps_W) (h0 : b ∉ while0Ops0_W) (h1 : b ∉ while0Ops0_1_W)
    (h2 : b ∉ while0Ops0_2_W) (h3 : b ∉ while0Ops0_3_W) :
    after while0Ops0_3 (after while0Ops0_2 (after while0Ops0_1 (after while0Ops0 (after condOps V)))) (Proc.devRef .tc b)
      = V (Proc.devRef .tc b) := by
  rw [after_of_writes_sub while0Ops0_3 _ while0Ops0_3_writes h3, after_of_writes_sub while0Ops0_2 _ while0Ops0_2_writes h2,
    after_of_writes_sub while0Ops0_1 _ while0Ops0_1_writes h1, after_of_writes_sub while0Ops0 _ while0Ops0_writes h0,
    after_of_writes_sub condOps _ condOps_writes hc]

/-- A buffer that no operation of the loop writes keeps its contents through a trip. -/
theorem trip_keeps (b : Ref sig .tc) (hc : b ∉ condOps_W) (h0 : b ∉ while0Ops0_W) (h1 : b ∉ while0Ops0_1_W)
    (h2 : b ∉ while0Ops0_2_W) (h3 : b ∉ while0Ops0_3_W) (h4 : b ∉ while0Ops0_4_W) (h5 : b ∉ while0Ops0_5_W)
    (h6 : b ∉ while0Ops0_6_W) :
    afterL bodyI (after condOps V) (Proc.devRef .tc b) = V (Proc.devRef .tc b) := by
  simp only [afterL_cons, afterL_nil]
  rw [after_of_writes_sub while0Ops0_6 _ while0Ops0_6_writes h6, after_of_writes_sub while0Ops0_5 _ while0Ops0_5_writes h5,
    after_of_writes_sub while0Ops0_4 _ while0Ops0_4_writes h4, first_keeps V b hc h0 h1 h2 h3]

/-- The trip's row of the log-probabilities, from the contents before the trip. -/
def row : FVec Ideal S256 .f32 :=
  shapeCast S256 (Host.dynamicSlice S1x256 (V (Proc.devRef .tc main_v25_0))
    (fun k => ((![V (Proc.devRef .tc main_v25_2), constantI S_ 32 0#32] : Fin 2 → IVec S_ 32) k (Shape.Idx.first h_S_)).toInt)
    sliceFits_S50000x256_S1x256) shapeCasts_S1x256_S256

/-- The first stretches leave the trip's row. -/
theorem first_row : after while0Ops0_3 (after while0Ops0_2 (after while0Ops0_1 (after while0Ops0 (after condOps V))))
    (Proc.devRef .tc main_while0b_v26) = row V := by
  have e0 := after_of_writes_sub condOps V condOps_writes (show main_v25_0 ∉ condOps_W by decide +kernel)
  have e2 := after_of_writes_sub condOps V condOps_writes (show main_v25_2 ∉ condOps_W by decide +kernel)
  rw [after_of_writes_sub while0Ops0_3 _ while0Ops0_3_writes (by decide +kernel),
    after_of_writes_sub while0Ops0_2 _ while0Ops0_2_writes (by decide +kernel),
    after_of_writes_sub while0Ops0_1 _ while0Ops0_1_writes (by decide +kernel), row_read, row, e0, e2]

/-- A trip's metrics, from the contents before it. -/
theorem trip_metric : afterL bodyI (after condOps V) (Proc.devRef .tc main_v25_3)
    = next (V (Proc.devRef .tc main_v25_3)) (row V) (V (Proc.devRef .tc main_v25_1)) := by
  have e3 := first_keeps V main_v25_3 (by decide +kernel) (by decide +kernel) (by decide +kernel) (by decide +kernel) (by decide +kernel)
  have e1 := first_keeps V main_v25_1 (by decide +kernel) (by decide +kernel) (by decide +kernel) (by decide +kernel) (by decide +kernel)
  simp only [afterL_cons, afterL_nil]
  rw [carry_metric, after_of_writes_sub while0Ops0_5 _ while0Ops0_5_writes (by decide +kernel), next_read, e3, e1, first_row]

/-- A trip's detected bit, from the metrics before it. -/
def bit (s : FVec Ideal S1x256 .f32) : FVec Ideal S1 .f32 := sitofp .f32 (fun j => rem2 (argmin s j).2 : IVec S1 32)

/-- The first stretches leave the remainder by 2 of the index of the first least metric. -/
theorem first_rem : after while0Ops0_3 (after while0Ops0_2 (after while0Ops0_1 (after while0Ops0 (after condOps V))))
    (Proc.devRef .tc main_while0b_v28) = (fun j => rem2 (argmin (V (Proc.devRef .tc main_v25_3)) j).2 : IVec S1 32) := by
  have e := after_of_writes_sub while0Ops0_2 (after while0Ops0_1 (after while0Ops0 (after condOps V))) while0Ops0_2_writes
    (show main_while0b_v27 ∉ while0Ops0_2_W by decide +kernel)
  have e3 := after_of_writes_sub while0Ops0 (after condOps V) while0Ops0_writes (show main_v25_3 ∉ while0Ops0_W by decide +kernel)
  have e3' := after_of_writes_sub condOps V condOps_writes (show main_v25_3 ∉ condOps_W by decide +kernel)
  rw [rem_read _ (two_read _), e, argmin_read, e3, e3']
  rfl

/-- A trip's detected bits, from the contents before it. -/
theorem trip_det : afterL bodyI (after condOps V) (Proc.devRef .tc main_v25_4)
    = Host.dynamicUpdateSlice (V (Proc.devRef .tc main_v25_4))
        (broadcastInDim S1x1 ![1] bcast_S1_S1x1_1 (bit (V (Proc.devRef .tc main_v25_3))))
        (fun k => ((![V (Proc.devRef .tc main_v25_2), constantI S_ 32 0#32] : Fin 2 → IVec S_ 32) k (Shape.Idx.first h_S_)).toInt)
        updateFits_S50000x1_S1x1 := by
  have e4 := first_keeps V main_v25_4 (by decide +kernel) (by decide +kernel) (by decide +kernel) (by decide +kernel) (by decide +kernel)
  have e2 := first_keeps V main_v25_2 (by decide +kernel) (by decide +kernel) (by decide +kernel) (by decide +kernel) (by decide +kernel)
  simp only [afterL_cons, afterL_nil]
  rw [carry_det, update_read, float_read, first_rem, ctr_while0Ops0_4, e2,
    after_of_writes_sub while0Ops0_4 _ while0Ops0_4_writes (by decide +kernel), e4]
  rfl

end Cert.Viterbi.Ref

end
-- ==== Proof.RefEntry.lean ====
/-
  What the reference's first operations compute: the probabilities, and what the loop begins with.
-/
module

public import proofs.«01_k».proof.Proof.RefLoop
public import proofs.«01_k».proof.Proof.Model

@[expose] public section

set_option maxRecDepth 100000

noncomputable section

namespace Cert.Viterbi.Ref

open Cert.ReferenceIdeal Cert.ReferenceIdeal.Gen Cert.ReferenceIdeal.Value
open Idealize.ShloMosaic Idealize.ShloMosaic.TcCoe Idealize.ShloMosaic.Tactic
open Idealize.ShloMosaic.StableHlo

/-- The probabilities as the reference computes them. -/
def probs (y : FVec Ideal S50000x1 .f32) (h : FVec Ideal S1x8 .f32) : FVec Ideal S50000x256 .f32 :=
  let sp : FVec Ideal S1x256 .f32 := transpose S1x256 [1, 0] (Host.dotGeneral dot_S256x8_S8x1_S256x1_1_0_0_1_n_n none
    (fun i => FloatOps.ofBits FTy.f32 (lit1 (S256x8.rowMajor i))) (transpose S8x1 [1, 0] h transposes_S1x8_S8x1_1_0))
    transposes_S256x1_S1x256_1_0
  let d := subf (broadcastInDim S50000x256 ![0, 1] bcast_S50000x1_S50000x256_0_1 y)
    (shapeCast S50000x256 (broadcastInDim S50000x1x1x256 ![0, 1, 2, 3] bcast_S1x1x1x256_S50000x1x1x256_0_1_2_3
      (shapeCast S1x1x1x256 sp shapeCasts_S1x256_S1x1x1x256)) shapeCasts_S50000x1x1x256_S50000x256)
  let e := Host.exp (Host.divf (Host.negf (mulf d d))
    (broadcastInDim S50000x256 ![] bcast_S_S50000x256 (constant S_ FTy.f32 1045220557#32)))
  Host.divf e (broadcastInDim S50000x256 ![0, 1] bcast_S50000x1_S50000x256_0_1
    (shapeCast S50000x1 (Host.reduceAdd e (constant S_ FTy.f32 0#32) reducesTo_S50000x256_S50000_d1 h_S_)
      shapeCasts_S50000_S50000x1))

/-- They are the model's. -/
theorem probs_apply (y : FVec Ideal S50000x1 .f32) (h : FVec Ideal S1x8 .f32) (t : Fin 50000) (i : Fin 256) :
    probs y h (ix2 t i) = prob (recv y t.val) (prior h) i.val := by
  unfold probs
  pointwise
  simp only [prob, total, like, recv_val, prior_val]

/-- The arrays the loop begins with: the log-probabilities, the table of predecessors, zero metrics. -/
theorem entry_log (m : (ℓ : Loc nD τ sig) → Buf (Elt Ideal) ℓ) (c : Dev nD) :
    entryContents preI m c (Proc.devRef .tc main_v25_0)
      = Host.log (probs (m ((c.tc : Thread nD τ).loc main_arg0)) (m ((c.tc : Thread nD τ).loc main_arg1))) := by
  simp only [entryContents, afterL_cons, afterL_nil]
  after_reads_simp
  rfl

/-- The table of predecessors. -/
abbrev table : IVec S256x2 32 := fun i => lit0 (S256x2.rowMajor i)

theorem entry_table (m : (ℓ : Loc nD τ sig) → Buf (Elt Ideal) ℓ) (c : Dev nD) :
    entryContents preI m c (Proc.devRef .tc main_v25_1) = table := by
  simp only [entryContents, afterL_cons, afterL_nil]
  after_reads_simp
  rfl

theorem entry_metric (m : (ℓ : Loc nD τ sig) → Buf (Elt Ideal) ℓ) (c : Dev nD) :
    entryContents preI m c (Proc.devRef .tc main_v25_3)
      = (broadcastInDim S1x256 ![] bcast_S_S1x256 (constant S_ .f32 0#32) : FVec Ideal S1x256 .f32) := by
  simp only [entryContents, afterL_cons, afterL_nil]
  after_reads_simp
  rfl

/-- The first stretch of operations leaves the probabilities. -/
theorem probs_read (V : Valuation τ sig (Elt Ideal)) : after hostOps0 V (Proc.devRef .tc main_v16)
    = probs (V (Proc.devRef .tc main_arg0)) (V (Proc.devRef .tc main_arg1)) := by
  after_reads_simp
  rfl

end Cert.Viterbi.Ref
-- ==== Proof.RefValue.lean ====
/-
  The reference's three results, read at a row.
-/
module

public import proofs.«01_k».proof.Proof.RefEntry
public import proofs.«01_k».proof.Proof.Arg

@[expose] public section

set_option maxRecDepth 100000

noncomputable section

namespace Cert.Viterbi.Ref

open Cert.ReferenceIdeal Cert.ReferenceIdeal.Gen Cert.ReferenceIdeal.Value
open Idealize.ShloMosaic Idealize.ShloMosaic.TcCoe Idealize.ShloMosaic.Tactic
open Idealize.ShloMosaic.StableHlo

/-- Each row's greatest probability with its first index, as the reference takes them. -/
def argmax (p : FVec Ideal S50000x256 .f32) : S50000.Idx → Ideal .f32 × BitVec 32 :=
  Host.argReduce (reducer_argmax_f32_i32 (F := Ideal)) p (iotaInDim S50000x256 32 1)
    (constant S_ .f32 0xFF800000#32) (constantI S_ 32 0#32) reducesTo_S50000x256_S50000_d1 h_S_

theorem argmax_eq (p : FVec Ideal S50000x256 .f32) : argmax p =
    Host.argReduce (reducer_argmax_f32_i32 (F := Ideal)) p (iotaInDim S50000x256 32 1)
      (constant S_ .f32 0xFF800000#32) (constantI S_ 32 0#32) reducesTo_S50000x256_S50000_d1 h_S_ := rfl

/-- The second stretch takes each row's arg-max. -/
theorem argmax_read (V : Valuation τ sig (Elt Ideal)) : after hostOps0_1 V (Proc.devRef .tc main_v18)
    = (fun j => (argmax (V (Proc.devRef .tc main_v16)) j).2 : IVec S50000 32) := by
  after_results
  rw [argmax_eq]
  rfl

/-- The third stretch is the divisor 2. -/
theorem two_read' (V : Valuation τ sig (Elt Ideal)) : after hostOps0_2 V (Proc.devRef .tc main_c_2) = constantI S_ 32 2#32 := by
  after_results

/-- The fourth stretch takes the remainders by 2. -/
theorem rem_read' (V : Valuation τ sig (Elt Ideal)) (h : V (Proc.devRef .tc main_c_2) = constantI S_ 32 2#32) :
    after hostOps0_3 V (Proc.devRef .tc main_v19) = (fun j => rem2 (V (Proc.devRef .tc main_v18) j) : IVec S50000 32) := by
  after_reads_simp
  rw [h]
  rfl

/-- The last stretch before the loop makes them a column. -/
theorem column_read (V : Valuation τ sig (Elt Ideal)) : after hostOps0_4 V (Proc.devRef .tc main_v20)
    = (shapeCast S50000x1 (V (Proc.devRef .tc main_v19) : IVec S50000 32) shapeCasts_S50000_S50000x1 : IVec S50000x1 32) := by
  after_reads_simp
  rfl

/-- What the reference leaves as the confident bits. -/
theorem entry_bits (m : (ℓ : Loc nD τ sig) → Buf (Elt Ideal) ℓ) (c : Dev nD) :
    entryContents preI m c (Proc.devRef .tc main_v20)
      = (shapeCast S50000x1 (fun j => rem2 (argmax (probs (m ((c.tc : Thread nD τ).loc main_arg0))
          (m ((c.tc : Thread nD τ).loc main_arg1))) j).2 : IVec S50000 32) shapeCasts_S50000_S50000x1 : IVec S50000x1 32) := by
  simp only [entryContents, afterL_cons, afterL_nil]
  rw [column_read, rem_read' _ (two_read' _), after_of_writes_sub hostOps0_2 _ hostOps0_2_writes (by decide +kernel),
    argmax_read, probs_read]

/-- What the reference leaves as the confidence. -/
theorem entry_word (m : (ℓ : Loc nD τ sig) → Buf (Elt Ideal) ℓ) (c : Dev nD) :
    entryContents preI m c (Proc.devRef .tc main_v22)
      = (shapeCast S50000x1 (Host.reduce FloatOps.maximumf (probs (m ((c.tc : Thread nD τ).loc main_arg0))
          (m ((c.tc : Thread nD τ).loc main_arg1))) (constant S_ .f32 0xFF800000#32) reducesTo_S50000x256_S50000_d1 h_S_)
          shapeCasts_S50000_S50000x1 : FVec Ideal S50000x1 .f32) := by
  simp only [entryContents, afterL_cons, afterL_nil]
  after_reads_simp
  rfl

/-- An index below 256 leaves its remainder by 2. -/
theorem rem2_ofNat : ∀ k < 256, rem2 (BitVec.ofNat 32 k) = BitVec.ofNat 32 (k % 2) := by decide +kernel

/-- The greatest and the least float as extended reals. -/
theorem ofBits_inf : Ideal.ofBits .f32 0x7F800000#32 = ⊤ := by simp [Ideal.ofBits, Ideal.ieee]
theorem ofBits_neg_inf : Ideal.ofBits .f32 0xFF800000#32 = ⊥ := by simp [Ideal.ofBits, Ideal.ieee]

/-- A column read at a row. -/
theorem column_apply {α : Type} (f : S50000.Idx → α) (t : Fin 50000) :
    shapeCast S50000x1 f shapeCasts_S50000_S50000x1 (ix2 t 0) = f (ix1 t) := by
  pointwise

/-- The reference's arg-max of a row is the index of the first greatest entry. -/
theorem argmax_first (p : FVec Ideal S50000x256 .f32) (t : Fin 50000) :
    ∃ k, FirstBest (fun a b => b < a) 256 (rowSeq p t) k ∧ (argmax p (ix1 t)).2 = BitVec.ofNat 32 k := by
  rw [argmax_eq]
  exact argReduce_first (R := 50000) (fun a b => b < a) (fun a => lt_irrefl a)
    (fun a b c h1 h2 => h2.trans h1) gt_tri _ argmax_keep p ⊥ (fun a => not_lt_bot)
    (constant S_ .f32 0xFF800000#32) (constantI S_ 32 0#32) (fun _ => ofBits_neg_inf) (fun _ => rfl)
    reducesTo_S50000x256_S50000_d1 h_S_ t

/-- The confident bit of a row: the parity of the first greatest probability's index. -/
theorem bits_apply (y : FVec Ideal S50000x1 .f32) (h : FVec Ideal S1x8 .f32) (t : Fin 50000) :
    ∃ k, FirstBest (fun a b => b < a) 256 (prob (recv y t.val) (prior h)) k ∧
      (shapeCast S50000x1 (fun j => rem2 (argmax (probs y h) j).2 : IVec S50000 32) shapeCasts_S50000_S50000x1 : IVec S50000x1 32)
        (ix2 t 0) = BitVec.ofNat 32 (k % 2) := by
  obtain ⟨k, hk, e⟩ := argmax_first (probs y h) t
  have hrow : ∀ i < 256, rowSeq (probs y h) t i = prob (recv y t.val) (prior h) i := fun i hi => by
    rw [rowSeq, dif_pos hi, probs_apply]
  refine ⟨k, ⟨hk.1, fun j hj => ?_, fun j hj => ?_⟩, ?_⟩
  · rw [← hrow j hj, ← hrow k hk.1]; exact hk.2.1 j hj
  · rw [← hrow j (hj.trans hk.1), ← hrow k hk.1]; exact hk.2.2 j hj
  · rw [column_apply, e, rem2_ofNat k hk.1]

/-- The confidence of a row: its greatest probability. -/
theorem word_apply (y : FVec Ideal S50000x1 .f32) (h : FVec Ideal S1x8 .f32) (t : Fin 50000) :
    (shapeCast S50000x1 (Host.reduce FloatOps.maximumf (probs y h) (constant S_ .f32 0xFF800000#32)
      reducesTo_S50000x256_S50000_d1 h_S_) shapeCasts_S50000_S50000x1 : FVec Ideal S50000x1 .f32) (ix2 t 0)
      = (Finset.univ : Finset (Fin 256)).fold max (⊥ : EReal) (fun i => prob (recv y t.val) (prior h) i.val) := by
  pointwise
  simp only [probs_apply, ofBits_neg_inf]

end Cert.Viterbi.Ref

end
-- ==== Proof.RefDet.lean ====
/-
  A trip of the reference's loop, read at an entry: the gather at the predecessors and the least of each pair.
-/
module

public import proofs.«01_k».proof.Proof.RefValue

@[expose] public section

set_option maxRecDepth 100000

noncomputable section

namespace Cert.Viterbi.Ref

open Cert.ReferenceIdeal Cert.ReferenceIdeal.Gen Cert.ReferenceIdeal.Value
open Idealize.ShloMosaic Idealize.ShloMosaic.TcCoe Idealize.ShloMosaic.Tactic
open Idealize.ShloMosaic.StableHlo

/-- The gather of one row's columns: the operand at the column the index names, clamped. -/
theorem gather_lanes {α : Type} (x : S1x256.Idx → α) (idx : IVec S512x1 32) (p : Fin 512) :
    Host.gather gather_S1x256_S512x1_S1x512_0_1_n_n_1_1_11 x idx (ix2 0 p)
      = x (ix2 0 ⟨min (idx (ix2 p 0)).toInt.toNat 255, by omega⟩) := by
  unfold Host.gather
  congr 1
  funext a
  refine Fin.ext ?_
  show gather_S1x256_S512x1_S1x512_0_1_n_n_1_1_11.start (ix2 0 p) idx a
    + gather_S1x256_S512x1_S1x512_0_1_n_n_1_1_11.batchCoord (ix2 0 p) a
    + gather_S1x256_S512x1_S1x512_0_1_n_n_1_1_11.offCoord (ix2 0 p) a = _
  match a with
  | ⟨0, h0⟩ =>
    have h : (ix2 (0 : Fin 1) (⟨min (idx (ix2 p 0)).toInt.toNat 255, by omega⟩ : Fin 256) ⟨0, h0⟩).val < 1 :=
      (ix2 (0 : Fin 1) (⟨min (idx (ix2 p 0)).toInt.toNat 255, by omega⟩ : Fin 256) ⟨0, h0⟩).isLt
    have h' := (gather_S1x256_S512x1_S1x512_0_1_n_n_1_1_11.operandIdx (ix2 0 p) idx ⟨0, h0⟩).isLt
    have h'' : (gather_S1x256_S512x1_S1x512_0_1_n_n_1_1_11.operandIdx (ix2 0 p) idx ⟨0, h0⟩).val < 1 := h'
    exact (Nat.lt_one_iff.1 h'').trans (Nat.lt_one_iff.1 h).symm
  | ⟨1, h1⟩ =>
    rw [GatherDims.batchCoord_eq_zero _ _ _ (fun h => by simp [gather_S1x256_S512x1_S1x512_0_1_n_n_1_1_11] at h),
      GatherDims.offCoord_eq_zero _ _ _ (fun h => ((GatherDims.mem_sKept _ _).mp h).1 (List.mem_singleton.mpr rfl))]
    simp only [Nat.add_zero]
    unfold GatherDims.start
    rw [dif_pos (show (⟨1, h1⟩ : Fin 2) ∈ gather_S1x256_S512x1_S1x512_0_1_n_n_1_1_11.startIndexMap from List.mem_singleton.mpr rfl)]
    have hsi : gather_S1x256_S512x1_S1x512_0_1_n_n_1_1_11.siIdx (ix2 0 p)
        ⟨List.idxOf (⟨1, h1⟩ : Fin 2) gather_S1x256_S512x1_S1x512_0_1_n_n_1_1_11.startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl

/-- The table of predecessors holds `n mod 256`. -/
theorem table_val : ∀ n : Fin 512, lit0 n = BitVec.ofNat 32 (n.val % 256) := by decide +kernel

/-- An index below 256 is not negative, so the gather takes it as it stands. -/
theorem wrap_small : ∀ k < 256, (Scalar.select (IntOp.cmpi .slt (BitVec.ofNat 32 k) 0#32)
    (IntOp.addi (BitVec.ofNat 32 k) 256#32) (BitVec.ofNat 32 k)).toInt.toNat = k := by decide +kernel

/-- The flat table at `n`, as the gather reads it. -/
theorem pred_table (n : Fin 512) : (pred table (ix1 n)).toInt.toNat = n.val % 256 := by
  have h : table (ix2 ⟨n.val / 2, by omega⟩ ⟨n.val % 2, by omega⟩) = BitVec.ofNat 32 (n.val % 256) := by
    rw [← table_val n]
    show lit0 _ = lit0 n
    congr 1
    refine Fin.ext ?_
    rw [rowMajor_val2 _ 2 rfl]
    exact Nat.div_add_mod' n.val 2
  unfold pred
  pointwise
  rw [h]
  exact wrap_small _ (Nat.mod_lt _ (by decide))

/-- The least of a pair. -/
theorem fold_two (f : Fin 2 → EReal) : (Finset.univ : Finset (Fin 2)).fold min (⊤ : EReal) f = min (f 0) (f 1) := by
  rw [show (Finset.univ : Finset (Fin 2)) = {0, 1} from by decide, Finset.fold_insert (by decide), Finset.fold_singleton,
    min_top_right]

/-- The next metrics at state `i`. -/
theorem next_apply (s : FVec Ideal S1x256 .f32) (row : FVec Ideal S256 .f32) (i : Fin 256) :
    next s row table (ix2 0 i)
      = min (s (ix2 0 ⟨2 * i.val % 256, by omega⟩) + -(row (ix1 ⟨2 * i.val % 256, by omega⟩)) : EReal)
          (s (ix2 0 ⟨(2 * i.val + 1) % 256, by omega⟩) + -(row (ix1 ⟨(2 * i.val + 1) % 256, by omega⟩))) := by
  unfold next
  pointwise
  simp only [gather_lanes]
  pointwise
  have h0 : min (pred table (ix1 (⟨i.val * 2 + (0 : Fin 2).val, by omega⟩ : Fin 512))).toInt.toNat 255 = 2 * i.val % 256 := by
    rw [pred_table]
    show min ((i.val * 2 + 0) % 256) 255 = _
    omega
  have h1 : min (pred table (ix1 (⟨i.val * 2 + (1 : Fin 2).val, by omega⟩ : Fin 512))).toInt.toNat 255 = (2 * i.val + 1) % 256 := by
    rw [pred_table]
    show min ((i.val * 2 + 1) % 256) 255 = _
    omega
  simp only [ofBits_inf]
  refine (fold_two _).trans ?_
  simp only [h0, h1]

end Cert.Viterbi.Ref

end
-- ==== Proof.RefRun.lean ====
/-
  The reference's loop over all 50000 steps, and its three results in terms of the model.
-/
module

public import proofs.«01_k».proof.Proof.RefDet
public import Idealize.ShloMosaic.Lib.DynamicIndex
public import Idealize.ShloMosaic.Lib.Quiescent

@[expose] public section

set_option maxRecDepth 100000

noncomputable section

namespace Cert.Viterbi.Ref

open Cert.ReferenceIdeal Cert.ReferenceIdeal.Gen Cert.ReferenceIdeal.Value
open Idealize.ShloMosaic Idealize.ShloMosaic.TcCoe Idealize.ShloMosaic.Tactic
open Idealize.ShloMosaic.StableHlo

variable (m : (ℓ : Loc nD τ sig) → Buf (Elt Ideal) ℓ) (c : Dev nD)

/-- The two arguments. -/
abbrev arg0 : FVec Ideal S50000x1 .f32 := m ((c.tc : Thread nD τ).loc main_arg0)
abbrev arg1 : FVec Ideal S1x8 .f32 := m ((c.tc : Thread nD τ).loc main_arg1)

/-- The model's metrics on this core's arguments. -/
abbrev pathOf : ℕ → ℕ → EReal := path (recv (arg0 m c)) (prior (arg1 m c))

/-- The log-probabilities stay as they were through the loop. -/
theorem atK_log : ∀ k, atK m k c (Proc.devRef .tc main_v25_0) = Host.log (probs (arg0 m c) (arg1 m c))
  | 0 => entry_log m c
  | k + 1 => (trip_keeps (atK m k c) main_v25_0 (by decide +kernel) (by decide +kernel) (by decide +kernel) (by decide +kernel)
      (by decide +kernel) (by decide +kernel) (by decide +kernel) (by decide +kernel)).trans (atK_log k)

/-- So does the table of predecessors. -/
theorem atK_table : ∀ k, atK m k c (Proc.devRef .tc main_v25_1) = table
  | 0 => entry_table m c
  | k + 1 => (trip_keeps (atK m k c) main_v25_1 (by decide +kernel) (by decide +kernel) (by decide +kernel) (by decide +kernel)
      (by decide +kernel) (by decide +kernel) (by decide +kernel) (by decide +kernel)).trans (atK_table k)

/-- The loop's counter before trip `k`. -/
theorem ctr_apply (k : ℕ) (j : S_.Idx) : (atK m k c (Proc.devRef .tc main_v25_2) : IVec S_ 32) j = BitVec.ofNat 32 k := by
  rw [atK_ctr]
  simp [Scf.iv]

/-- The starts a trip reads and writes at, as a function of the axis. -/
abbrev starts (k : ℕ) : Fin 2 → ℤ :=
  fun a => ((![atK m k c (Proc.devRef .tc main_v25_2), constantI S_ 32 0#32] : Fin 2 → IVec S_ 32) a (Shape.Idx.first h_S_)).toInt

theorem starts_0 (k : ℕ) (hk : k < 50000) : starts m c k 0 = k := by
  have h : starts m c k 0 = (BitVec.ofNat 32 k).toInt := congrArg BitVec.toInt (ctr_apply m c k _)
  rw [h]
  exact toInt_ofNat_of_lt (by omega)

theorem starts_1 (k : ℕ) : starts m c k 1 = 0 := rfl

/-- The trip's row: the log-probabilities of that step. -/
theorem row_apply (k : ℕ) (hk : k < 50000) (i : Fin 256) :
    row (atK m k c) (ix1 i) = Ideal.log (prob (recv (arg0 m c) k) (prior (arg1 m c)) i.val) := by
  have h0 : ∀ h, Host.clampedStart S50000x256 S1x256 h (starts m c k) 0 = k := fun h =>
    Host.clampedStart_of_le h _ 0 k (starts_0 m c k hk) (show k + 1 ≤ 50000 by omega)
  have h1 : ∀ h, Host.clampedStart S50000x256 S1x256 h (starts m c k) 1 = 0 := fun h =>
    Host.clampedStart_of_le h _ 1 0 (starts_1 m c k) (le_refl 256)
  unfold row
  pointwise
  have e := probs_apply (arg0 m c) (arg1 m c) ⟨k, hk⟩ i
  refine (congrFun (atK_log m c k) _).trans ?_
  refine Eq.trans ?_ (congrArg Ideal.log e)
  refine congrArg (fun j => Ideal.log (probs (arg0 m c) (arg1 m c) j)) ?_
  refine congrArg₂ ix2 (Fin.ext (h0 rfl)) (Fin.ext ?_)
  exact (congrArg (· + i.val) (h1 rfl)).trans (Nat.zero_add _)

/-- The loop's metrics are the model's. -/
theorem atK_metric : ∀ k, k ≤ 50000 → ∀ i : Fin 256,
    (atK m k c (Proc.devRef .tc main_v25_3) : FVec Ideal S1x256 .f32) (ix2 0 i) = pathOf m c k i.val
  | 0, _, i => by
    refine (congrFun (entry_metric m c) _).trans ?_
    pointwise
    rfl
  | k + 1, hk, i => by
    refine (congrFun (trip_metric (atK m k c)) _).trans ?_
    rw [atK_table, next_apply, atK_metric k (by omega), atK_metric k (by omega), row_apply m c k (by omega), row_apply m c k (by omega)]
    rfl

/-- A metric array's first least entry, as the reference takes it. -/
theorem argmin_first (s : FVec Ideal S1x256 .f32) :
    ∃ k, FirstBest (fun a b => a < b) 256 (rowSeq s 0) k ∧ (argmin s (ix1 0)).2 = BitVec.ofNat 32 k := by
  rw [argmin_eq]
  exact argReduce_first (R := 1) (fun a b => a < b) (fun a => lt_irrefl a)
    (fun a b c h1 h2 => h1.trans h2) lt_tri _ argmin_keep s ⊤ (fun a => not_top_lt)
    (constant S_ .f32 0x7F800000#32) (constantI S_ 32 0#32) (fun _ => ofBits_inf) (fun _ => rfl)
    reducesTo_S1x256_S1_d1 h_S_ 0

/-- The bit detected at step `t`: the parity, as a float, of the first least metric's index. -/
def Detected (f : ℕ → ℕ → EReal) (t : ℕ) (d : EReal) : Prop :=
  ∃ k, FirstBest (fun a b => a < b) 256 (f t) k ∧ d = (((BitVec.ofNat 32 (k % 2)).toInt : ℝ) : EReal)

/-- A trip's bit. -/
theorem bit_detected (k : ℕ) (hk : k ≤ 50000) :
    Detected (pathOf m c) k (bit (atK m k c (Proc.devRef .tc main_v25_3)) (ix1 0)) := by
  obtain ⟨j, hj, e⟩ := argmin_first (atK m k c (Proc.devRef .tc main_v25_3))
  have hrow : ∀ i < 256, rowSeq (atK m k c (Proc.devRef .tc main_v25_3) : FVec Ideal S1x256 .f32) 0 i = pathOf m c k i := fun i hi => by
    rw [rowSeq, dif_pos hi]; exact atK_metric m c k hk ⟨i, hi⟩
  refine ⟨j, ⟨hj.1, fun i hi => ?_, fun i hi => ?_⟩, ?_⟩
  · rw [← hrow i hi, ← hrow j hj.1]; exact hj.2.1 i hi
  · rw [← hrow i (hi.trans hj.1), ← hrow j hj.1]; exact hj.2.2 i hi
  · rw [← rem2_ofNat j hj.1, ← e]
    rfl

/-- The loop's detected bits: each row below the trip's number holds that step's. -/
theorem atK_det : ∀ k, k ≤ 50000 → ∀ t : Fin 50000, t.val < k →
    Detected (pathOf m c) t.val ((atK m k c (Proc.devRef .tc main_v25_4) : FVec Ideal S50000x1 .f32) (ix2 t 0))
  | 0, _, t, ht => absurd ht (Nat.not_lt_zero _)
  | k + 1, hk, t, ht => by
    have h0 : ∀ h, Host.clampedStart S50000x1 S1x1 h (starts m c k) 0 = k := fun h =>
      Host.clampedStart_of_le h _ 0 k (starts_0 m c k hk) (show k + 1 ≤ 50000 by omega)
    have h1 : ∀ h, Host.clampedStart S50000x1 S1x1 h (starts m c k) 1 = 0 := fun h =>
      Host.clampedStart_of_le h _ 1 0 (starts_1 m c k) (le_refl 1)
    have e := congrFun (trip_det (atK m k c)) (ix2 t 0)
    have e' : (atK m (k + 1) c (Proc.devRef .tc main_v25_4) : FVec Ideal S50000x1 .f32) (ix2 t 0)
        = if t.val = k then bit (atK m k c (Proc.devRef .tc main_v25_3)) (ix1 0)
          else (atK m k c (Proc.devRef .tc main_v25_4) : FVec Ideal S50000x1 .f32) (ix2 t 0) := by
      refine e.trans ?_
      pointwise
      by_cases hk' : t.val = k
      · rw [if_pos hk', dif_pos]
        intro a
        match a with
        | ⟨0, _⟩ =>
          have g : ∀ h, Host.clampedStart S50000x1 S1x1 h (starts m c k) 0 ≤ t.val
              ∧ t.val < Host.clampedStart S50000x1 S1x1 h (starts m c k) 0 + 1 := fun h => by rw [h0 h]; omega
          exact g _
        | ⟨1, _⟩ =>
          have g : ∀ h, Host.clampedStart S50000x1 S1x1 h (starts m c k) 1 ≤ 0
              ∧ 0 < Host.clampedStart S50000x1 S1x1 h (starts m c k) 1 + 1 := fun h => by rw [h1 h]; omega
          exact g _
      · rw [if_neg hk', dif_neg]
        intro h
        have g : ∀ h, (Host.clampedStart S50000x1 S1x1 h (starts m c k) 0 ≤ t.val
              ∧ t.val < Host.clampedStart S50000x1 S1x1 h (starts m c k) 0 + 1) → False := fun h => by rw [h0 h]; omega
        exact g _ (h (0 : Fin 2))
    rw [e']
    split
    · rename_i h
      rw [h]
      exact bit_detected m c k (by omega)
    · exact atK_det k (by omega) t (by omega)

/-- A buffer that the failing condition's operations do not write ends as the last trip left it. -/
theorem final_keeps (b : Ref sig .tc) (hc : b ∉ condOps_W) :
    finalContents condOps preI bodyI postI 50000 m c (Proc.devRef .tc b) = atK m 50000 c (Proc.devRef .tc b) := by
  simp only [finalContents, afterL_nil]
  exact after_of_writes_sub condOps _ condOps_writes hc

/-- The loop leaves the results computed before it as they were. -/
theorem atK_bits : ∀ k, atK m k c (Proc.devRef .tc main_v20) = entryContents preI m c (Proc.devRef .tc main_v20)
  | 0 => rfl
  | k + 1 => (trip_keeps (atK m k c) main_v20 (by decide +kernel) (by decide +kernel) (by decide +kernel) (by decide +kernel)
      (by decide +kernel) (by decide +kernel) (by decide +kernel) (by decide +kernel)).trans (atK_bits k)

theorem atK_word : ∀ k, atK m k c (Proc.devRef .tc main_v22) = entryContents preI m c (Proc.devRef .tc main_v22)
  | 0 => rfl
  | k + 1 => (trip_keeps (atK m k c) main_v22 (by decide +kernel) (by decide +kernel) (by decide +kernel) (by decide +kernel)
      (by decide +kernel) (by decide +kernel) (by decide +kernel) (by decide +kernel)).trans (atK_word k)

/-- The reference's three results on a core. -/
abbrev det : FVec Ideal S50000x1 .f32 := finalContents condOps preI bodyI postI 50000 m c (Proc.devRef .tc main_v25_4)
abbrev cbits : IVec S50000x1 32 := finalContents condOps preI bodyI postI 50000 m c (Proc.devRef .tc main_v20)
abbrev cword : FVec Ideal S50000x1 .f32 := finalContents condOps preI bodyI postI 50000 m c (Proc.devRef .tc main_v22)

/-- The detected bits are the model's. -/
theorem det_apply (t : Fin 50000) : Detected (pathOf m c) t.val (det m c (ix2 t 0)) :=
  (congrArg (Detected (pathOf m c) t.val) (congrFun (final_keeps m c main_v25_4 (by decide +kernel)) (ix2 t 0))).mpr
    (atK_det m c 50000 (le_refl _) t t.isLt)

/-- The confident bits are the parities of the first greatest probabilities' indices. -/
theorem cbits_apply (t : Fin 50000) : ∃ k, FirstBest (fun a b => b < a) 256 (prob (recv (arg0 m c) t.val) (prior (arg1 m c))) k
    ∧ cbits m c (ix2 t 0) = BitVec.ofNat 32 (k % 2) := by
  obtain ⟨k, hk, e⟩ := bits_apply (arg0 m c) (arg1 m c) t
  refine ⟨k, hk, Eq.trans ?_ e⟩
  exact congrFun (((final_keeps m c main_v20 (by decide +kernel)).trans (atK_bits m c 50000)).trans (entry_bits m c)) (ix2 t 0)

/-- The confidences are the greatest probabilities. -/
theorem cword_apply (t : Fin 50000) : cword m c (ix2 t 0)
    = (Finset.univ : Finset (Fin 256)).fold max (⊥ : EReal) (fun i => prob (recv (arg0 m c) t.val) (prior (arg1 m c)) i.val) := by
  refine Eq.trans ?_ (word_apply (arg0 m c) (arg1 m c) t)
  exact congrFun (((final_keeps m c main_v22 (by decide +kernel)).trans (atK_word m c 50000)).trans (entry_word m c)) (ix2 t 0)

end Cert.Viterbi.Ref

end
-- ==== Proof.RefQuiet.lean ====
/- The reference runs to the end, leaves its arguments as they were and its counters at zero. -/
module

public import proofs.«01_k».proof.Proof.RefRun

@[expose] public section

set_option maxRecDepth 100000

noncomputable section

namespace Cert.Viterbi.Ref

open Cert.ReferenceIdeal Cert.ReferenceIdeal.Gen Cert.ReferenceIdeal.Value
open Idealize.ShloMosaic Idealize.ShloMosaic.TcCoe Idealize.ShloMosaic.Tactic
open Idealize.ShloMosaic.StableHlo Idealize.SL.Sem

variable (m : (ℓ : Loc nD τ sig) → Buf (Elt Ideal) ℓ) (ρ : Dev nD → PrngReg) (c : Dev nD)

/-- Nothing before the loop writes an argument. -/
theorem entry_keeps (b : Ref sig .tc) (h0 : b ∉ hostOps0_W) (h1 : b ∉ hostOps0_1_W) (h2 : b ∉ hostOps0_2_W)
    (h3 : b ∉ hostOps0_3_W) (h4 : b ∉ hostOps0_4_W) : atK m 0 c (Proc.devRef .tc b) = m ((c.tc : Thread nD τ).loc b) := by
  show entryContents preI m c (Proc.devRef .tc b) = _
  simp only [entryContents, afterL_cons, afterL_nil]
  rw [after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- The first argument stays through the loop. -/
theorem atK_arg0 : ∀ k, atK m k c (Proc.devRef .tc main_arg0) = m ((c.tc : Thread nD τ).loc main_arg0)
  | 0 => entry_keeps m c main_arg0 (by decide +kernel) (by decide +kernel) (by decide +kernel) (by decide +kernel) (by decide +kernel)
  | k + 1 => (trip_keeps (atK m k c) main_arg0 (by decide +kernel) (by decide +kernel) (by decide +kernel) (by decide +kernel)
      (by decide +kernel) (by decide +kernel) (by decide +kernel) (by decide +kernel)).trans (atK_arg0 k)

/-- So does the second. -/
theorem atK_arg1 : ∀ k, atK m k c (Proc.devRef .tc main_arg1) = m ((c.tc : Thread nD τ).loc main_arg1)
  | 0 => entry_keeps m c main_arg1 (by decide +kernel) (by decide +kernel) (by decide +kernel) (by decide +kernel) (by decide +kernel)
  | k + 1 => (trip_keeps (atK m k c) main_arg1 (by decide +kernel) (by decide +kernel) (by decide +kernel) (by decide +kernel)
      (by decide +kernel) (by decide +kernel) (by decide +kernel) (by decide +kernel)).trans (atK_arg1 k)

/-- The first argument at the end. -/
theorem final_arg0 : finalContents condOps preI bodyI postI 50000 m c (Proc.devRef .tc main_arg0) = m ((c.tc : Thread nD τ).loc main_arg0) :=
  (final_keeps m c main_arg0 (by decide +kernel)).trans (atK_arg0 m c 50000)

/-- The second argument at the end. -/
theorem final_arg1 : finalContents condOps preI bodyI postI 50000 m c (Proc.devRef .tc main_arg1) = m ((c.tc : Thread nD τ).loc main_arg1) :=
  (final_keeps m c main_arg1 (by decide +kernel)).trans (atK_arg1 m c 50000)

/-- The reference runs to the end, leaves its three results as computed and its arguments as they were, its counters at zero. -/
theorem run_main : θ_run (Cert.ReferenceIdeal.defs (F := Ideal)) (onTc (τ := τ) (main (F := Ideal))) ⟨m, fun _ => 0, ρ⟩ (fun r =>
    (∀ c : Dev nD, r.2.mem ((c.tc : Thread nD τ).loc main_v25_4) = det m c ∧ r.2.mem ((c.tc : Thread nD τ).loc main_v20) = cbits m c
      ∧ r.2.mem ((c.tc : Thread nD τ).loc main_v22) = cword m c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run (Cert.ReferenceIdeal.defs (F := Ideal)) _ _).mono (fun r h => ⟨fun c => ⟨h c main_v25_4 (by decide), h c main_v20 (by decide),
    h c main_v22 (by decide), (h c main_arg0 (by decide)).trans (final_arg0 m c), (h c main_arg1 (by decide)).trans (final_arg1 m c)⟩,
    Idealize.ShloMosaic.sem_eq_zero_of_no_sems (by decide) r.2⟩) (Cert.ReferenceIdeal.Value.run_fold m ρ)

end Cert.Viterbi.Ref

end
-- ==== Proof.Equal.lean ====
/- The kernel and the reference, from the same arguments, leave the same three results. -/
module

public import proofs.«01_k».proof.Proof.KernValue
public import proofs.«01_k».proof.Proof.RefQuiet

@[expose] public section

set_option maxRecDepth 16384

noncomputable section

namespace Cert.Viterbi

open Idealize.ShloMosaic Idealize.ShloMosaic.TcCoe Idealize.SL.Sem

section KernelRun

open Cert.KernelIdeal Cert.KernelIdeal.Gen

variable (m : (ℓ : Loc nD τ sig) → Buf (Elt Ideal) ℓ) (ρ : Dev nD → PrngReg) (c : Dev nD)

/-- What the kernel leaves in a buffer that the launch does not stage. -/
abbrev left (b : Ref sig .tc) : Buf (Elt Ideal) ((c.tc : Thread nD τ).loc b) :=
  Pipeline.afterTail₀ cfgs (Kern.dats m) 0 (V0 m) [hostOps1] c b

/-- The kernel runs to the end, with its three results as the value theorems read them and its arguments as they were. -/
theorem Kern.run_results : θ_run (defs (F := Ideal)) (onTc (τ := τ) (main (F := Ideal))) ⟨m, fun _ => 0, ρ⟩ (fun r =>
    (∀ c : Dev nD, r.2.mem ((c.tc : Thread nD τ).loc main_v32) = left m c main_v32
      ∧ r.2.mem ((c.tc : Thread nD τ).loc main_v33) = left m c main_v33
      ∧ r.2.mem ((c.tc : Thread nD τ).loc main_v34) = left m c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run (defs (F := Ideal)) _ _).mono (fun _ h => ⟨fun c =>
      ⟨(h.1 c).2 main_v32 (Pipeline.mem_restRefs_of main_v32 (by decide) (by decide)),
       (h.1 c).2 main_v33 (Pipeline.mem_restRefs_of main_v33 (by decide) (by decide)),
       (h.1 c).2 main_v34 (Pipeline.mem_restRefs_of main_v34 (by decide) (by decide)),
       ((h.1 c).2 main_arg0 (Pipeline.mem_restRefs_of main_arg0 (by decide) (by decide))).trans (W_main_arg0 m (Kern.dats m) c),
       ((h.1 c).2 main_arg1 (Pipeline.mem_restRefs_of main_arg1 (by decide) (by decide))).trans (W_main_arg1 m (Kern.dats m) c)⟩, h.2⟩)
    (Kern.run_main m ρ)

end KernelRun

section Same

/-- Two columns of 50000 rows with the same rows are the same. -/
theorem column_ext {α : Type} (A B : (⟨2, ![50000, 1]⟩ : Shape).Idx → α) (h : ∀ T : Fin 50000, A (ix2 T 0) = B (ix2 T 0)) : A = B :=
  funext fun j => by
    have e : j = ix2 (j 0) (0 : Fin 1) := (eq_ix2 j).trans (congrArg (ix2 (j 0)) (Subsingleton.elim (α := Fin 1) _ _))
    rw [e]
    exact h (j 0)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h0 : Ref.arg0 m' c = m ((c.tc : Thread Cert.KernelIdeal.nD Cert.KernelIdeal.τ).loc Cert.KernelIdeal.main_arg0))
  (h1 : Ref.arg1 m' c = m ((c.tc : Thread Cert.KernelIdeal.nD Cert.KernelIdeal.τ).loc Cert.KernelIdeal.main_arg1))

include h0 h1

/-- The detected bits agree. -/
theorem same_det : (Ref.det m' c : FVec Ideal ⟨2, ![50000, 1]⟩ .f32) = left m c Cert.KernelIdeal.main_v32 := by
  refine column_ext _ _ fun T => ?_
  obtain ⟨k, hk, e⟩ := Ref.det_apply m' c T
  refine e.trans (Eq.symm (Kern.det_row m c T ?_))
  rw [Ref.pathOf, h0, h1] at hk
  exact hk

/-- The confident bits agree. -/
theorem same_cbits : (Ref.cbits m' c : IVec ⟨2, ![50000, 1]⟩ 32) = left m c Cert.KernelIdeal.main_v33 := by
  refine column_ext _ _ fun T => ?_
  obtain ⟨k, hk, e⟩ := Ref.cbits_apply m' c T
  refine e.trans (Eq.symm (Kern.bits_row m c T ?_))
  rw [h0, h1] at hk
  exact hk

/-- The confidences agree. -/
theorem same_cword : (Ref.cword m' c : FVec Ideal ⟨2, ![50000, 1]⟩ .f32) = left m c Cert.KernelIdeal.main_v34 := by
  refine column_ext _ _ fun T => ?_
  obtain ⟨k, hk, -⟩ := Ref.cbits_apply m' c T
  have e := Ref.cword_apply m' c T
  rw [fold_max_first hk (fun q => q) (fun q hq => hq) (fun i hi => ⟨i, hi, rfl⟩)] at e
  rw [h0, h1] at hk e
  exact e.trans (Eq.symm (Kern.word_row m c T hk))

end Same

end Cert.Viterbi

end
-- ==== Proof.lean ====
module

public import proofs.«01_k».proof.Defs
public import proofs.«01_k».proof.Proof.KernelFrame
public import proofs.«01_k».proof.Proof.Equal
public import Idealize.ShloMosaic.Adequacy
public import Idealize.ShloMosaic.Init

@[expose] public section

noncomputable section

namespace Cert.Proof

open Idealize.ShloMosaic Idealize.SL.Sem

/-- From the same arguments the kernel and the reference leave the same three results. -/
theorem algebraic : Cert.algebraic_KernelIdeal_ReferenceIdeal := fun m g m' g' _ h =>
  ⟨fun c => Viterbi.left m c Cert.KernelIdeal.main_v32, fun c => Viterbi.left m c Cert.KernelIdeal.main_v33,
    fun c => Viterbi.left m c Cert.KernelIdeal.main_v34,
    (θ_run (Cert.KernelIdeal.defs (F := Ideal)) _ _).mono (fun _ hr => hr.1) (Viterbi.Kern.run_results m g),
    (θ_run (Cert.ReferenceIdeal.defs (F := Ideal)) _ _).mono (fun _ hr c =>
      ⟨(hr.1 c).1.trans (Viterbi.same_det m m' c (h c).1 (h c).2), (hr.1 c).2.1.trans (Viterbi.same_cbits m m' c (h c).1 (h c).2),
        (hr.1 c).2.2.1.trans (Viterbi.same_cword m m' c (h c).1 (h c).2), (hr.1 c).2.2.2⟩) (Viterbi.Ref.run_main m' g')⟩

/-- Every claim. -/
theorem claim : Cert.Claim := ⟨Cert.Kernel.Gen.facts, Cert.KernelIdeal.Gen.facts, Cert.ReferenceIdeal.Gen.facts,
  fun m g _ => Cert.Kernel.Gen.quiescent m g,
  fun m g _ => (θ_run (Cert.KernelIdeal.defs (F := Ideal)) _ _).mono (fun _ hr => ⟨fun c => (hr.1 c).2.2.2, hr.2⟩)
    (Viterbi.Kern.run_results m g),
  fun m g _ => (θ_run (Cert.ReferenceIdeal.defs (F := Ideal)) _ _).mono (fun _ hr => ⟨fun c => (hr.1 c).2.2.2, hr.2⟩)
    (Viterbi.Ref.run_main m g),
  trivial, algebraic⟩

end Cert.Proof

end
